-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 512]⟩ ⟨2, ![8192, 512]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 512]⟩ ⟨2, ![8192, 512]⟩ 0 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v21) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S512 : Shape := ⟨1, ![512]⟩
abbrev S2x512 : Shape := ⟨2, ![2, 512]⟩
abbrev S4x2x512 : Shape := ⟨3, ![4, 2, 512]⟩
abbrev S4 : Shape := ⟨1, ![4]⟩
abbrev S1 : Shape := ⟨1, ![1]⟩
abbrev S_ : Shape := ⟨0, ![]⟩
abbrev S512x1 : Shape := ⟨2, ![512, 1]⟩
abbrev S1x512 : Shape := ⟨2, ![1, 512]⟩
abbrev S1x2x512 : Shape := ⟨3, ![1, 2, 512]⟩

abbrev nBuf : Space → Nat
  | .hbm => 4
  | .vmem => 7
  | .smem => 0
  | _ => 0

abbrev bufTy : (tb : Table) → Fin (tcTables nBuf tb) → BufTy
  | .hbm, ⟨0, _⟩ => ⟨S512x512, .bf16⟩
  | .hbm, ⟨1, _⟩ => ⟨S512x512, .bf16⟩
  | .hbm, ⟨2, _⟩ => ⟨S512, .bf16⟩
  | .hbm, ⟨3, _⟩ => ⟨S2x512, .f32⟩
  | .local _ .vmem, ⟨0, _⟩ => ⟨S512x512, .bf16⟩
  | .local _ .vmem, ⟨1, _⟩ => ⟨S512x512, .bf16⟩
  | .local _ .vmem, ⟨2, _⟩ => ⟨S2x512, .f32⟩
  | .local _ .vmem, ⟨3, _⟩ => ⟨S2x512, .f32⟩
  | .local _ .vmem, ⟨4, _⟩ => ⟨S2x512, .f32⟩
  | .local _ .vmem, ⟨5, _⟩ => ⟨S4x2x512, .f32⟩
  | .local _ .vmem, ⟨6, _⟩ => ⟨S4x2x512, .f32⟩
  | _, _ => ⟨S512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 9 19 bufScoped semScoped dmaSemScoped tileCredit tileCredit_eq_zero tileCredit_pos).withBarriers [(0, 8)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 8

abbrev nD : Nat := 16
abbrev τ : Topo := Topo.v7x

variable {F : FTy → Type} [FloatOps F]

abbrev grid0 : Pipeline.Grid := .none

def k0_dev1 (d0 : Dev nD) : Nat :=
  let c0_i32_21 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_20 : BitVec 32 := 1#32
  let v45 : BitVec 32 := Scalar.muli v42 c1_i32_20
  let v46 : BitVec 32 := Scalar.addi c0_i32_21 v45
  v46.toNat
def k0_dev2 (d0 : Dev nD) : Nat :=
  let c0_i32_33 : BitVec 32 := 0#32
  let c4_i32_29 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_22 : BitVec 32 := 1#32
  let v47 : BitVec 32 := Scalar.addi v19 c1_i32_22
  let c4_i32_23 : BitVec 32 := 4#32
  let c0_i32_24 : BitVec 32 := 0#32
  let v48 : BitVec 1 := Scalar.cmpi .eq c4_i32_23 c0_i32_24
  let c1_i32_25 : BitVec 32 := 1#32
  let v49 : BitVec 32 := Scalar.select v48 c1_i32_25 c4_i32_23
  let v50 : BitVec 32 := Scalar.remsi v47 v49
  let c0_i32_27 : BitVec 32 := 0#32
  let v52 : BitVec 1 := Scalar.cmpi .slt v50 c0_i32_27
  let c0_i32_28 : BitVec 32 := 0#32
  let v53 : BitVec 1 := Scalar.cmpi .slt v49 c0_i32_28
  let v54 : BitVec 1 := Scalar.xori v52 v53
  let c0_i32_26 : BitVec 32 := 0#32
  let v51 : BitVec 1 := Scalar.cmpi .ne v50 c0_i32_26
  let v55 : BitVec 1 := Scalar.andi v54 v51
  let v56 : BitVec 32 := Scalar.addi v50 v49
  let v57 : BitVec 32 := Scalar.select v55 v56 v50
  let v58 : BitVec 32 := Scalar.muli c4_i32_29 v57
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v59 : BitVec 32 := Scalar.addi v58 v29
  let c1_i32_32 : BitVec 32 := 1#32
  let v62 : BitVec 32 := Scalar.muli v59 c1_i32_32
  let v63 : BitVec 32 := Scalar.addi c0_i32_33 v62
  v63.toNat
def k0_dev3 (d0 : Dev nD) : Nat :=
  let c0_i32_44 : BitVec 32 := 0#32
  let c4_i32_34 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v64 : BitVec 32 := Scalar.muli c4_i32_34 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v65 : BitVec 32 := Scalar.addi v29 c2_i32
  let c4_i32_35 : BitVec 32 := 4#32
  let c0_i32_36 : BitVec 32 := 0#32
  let v66 : BitVec 1 := Scalar.cmpi .eq c4_i32_35 c0_i32_36
  let c1_i32_37 : BitVec 32 := 1#32
  let v67 : BitVec 32 := Scalar.select v66 c1_i32_37 c4_i32_35
  let v68 : BitVec 32 := Scalar.remsi v65 v67
  let c0_i32_39 : BitVec 32 := 0#32
  let v70 : BitVec 1 := Scalar.cmpi .slt v68 c0_i32_39
  let c0_i32_40 : BitVec 32 := 0#32
  let v71 : BitVec 1 := Scalar.cmpi .slt v67 c0_i32_40
  let v72 : BitVec 1 := Scalar.xori v70 v71
  let c0_i32_38 : BitVec 32 := 0#32
  let v69 : BitVec 1 := Scalar.cmpi .ne v68 c0_i32_38
  let v73 : BitVec 1 := Scalar.andi v72 v69
  let v74 : BitVec 32 := Scalar.addi v68 v67
  let v75 : BitVec 32 := Scalar.select v73 v74 v68
  let v76 : BitVec 32 := Scalar.addi v64 v75
  let c1_i32_43 : BitVec 32 := 1#32
  let v79 : BitVec 32 := Scalar.muli v76 c1_i32_43
  let v80 : BitVec 32 := Scalar.addi c0_i32_44 v79
  v80.toNat
def k0_dev4 (d0 : Dev nD) : Nat :=
  let c0_i32_56 : BitVec 32 := 0#32
  let c4_i32_52 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_45 : BitVec 32 := 2#32
  let v81 : BitVec 32 := Scalar.addi v19 c2_i32_45
  let c4_i32_46 : BitVec 32 := 4#32
  let c0_i32_47 : BitVec 32 := 0#32
  let v82 : BitVec 1 := Scalar.cmpi .eq c4_i32_46 c0_i32_47
  let c1_i32_48 : BitVec 32 := 1#32
  let v83 : BitVec 32 := Scalar.select v82 c1_i32_48 c4_i32_46
  let v84 : BitVec 32 := Scalar.remsi v81 v83
  let c0_i32_50 : BitVec 32 := 0#32
  let v86 : BitVec 1 := Scalar.cmpi .slt v84 c0_i32_50
  let c0_i32_51 : BitVec 32 := 0#32
  let v87 : BitVec 1 := Scalar.cmpi .slt v83 c0_i32_51
  let v88 : BitVec 1 := Scalar.xori v86 v87
  let c0_i32_49 : BitVec 32 := 0#32
  let v85 : BitVec 1 := Scalar.cmpi .ne v84 c0_i32_49
  let v89 : BitVec 1 := Scalar.andi v88 v85
  let v90 : BitVec 32 := Scalar.addi v84 v83
  let v91 : BitVec 32 := Scalar.select v89 v90 v84
  let v92 : BitVec 32 := Scalar.muli c4_i32_52 v91
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v93 : BitVec 32 := Scalar.addi v92 v29
  let c1_i32_55 : BitVec 32 := 1#32
  let v96 : BitVec 32 := Scalar.muli v93 c1_i32_55
  let v97 : BitVec 32 := Scalar.addi c0_i32_56 v96
  v97.toNat
def k0_dev5 (d0 : Dev nD) : Nat :=
  let c0_i32_68 : BitVec 32 := 0#32
  let c4_i32_57 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v98 : BitVec 32 := Scalar.muli c4_i32_57 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_58 : BitVec 32 := 3#32
  let v99 : BitVec 32 := Scalar.addi v29 c3_i32_58
  let c4_i32_59 : BitVec 32 := 4#32
  let c0_i32_60 : BitVec 32 := 0#32
  let v100 : BitVec 1 := Scalar.cmpi .eq c4_i32_59 c0_i32_60
  let c1_i32_61 : BitVec 32 := 1#32
  let v101 : BitVec 32 := Scalar.select v100 c1_i32_61 c4_i32_59
  let v102 : BitVec 32 := Scalar.remsi v99 v101
  let c0_i32_63 : BitVec 32 := 0#32
  let v104 : BitVec 1 := Scalar.cmpi .slt v102 c0_i32_63
  let c0_i32_64 : BitVec 32 := 0#32
  let v105 : BitVec 1 := Scalar.cmpi .slt v101 c0_i32_64
  let v106 : BitVec 1 := Scalar.xori v104 v105
  let c0_i32_62 : BitVec 32 := 0#32
  let v103 : BitVec 1 := Scalar.cmpi .ne v102 c0_i32_62
  let v107 : BitVec 1 := Scalar.andi v106 v103
  let v108 : BitVec 32 := Scalar.addi v102 v101
  let v109 : BitVec 32 := Scalar.select v107 v108 v102
  let v110 : BitVec 32 := Scalar.addi v98 v109
  let c1_i32_67 : BitVec 32 := 1#32
  let v113 : BitVec 32 := Scalar.muli v110 c1_i32_67
  let v114 : BitVec 32 := Scalar.addi c0_i32_68 v113
  v114.toNat
def k0_dev6 (d0 : Dev nD) : Nat :=
  let c0_i32_80 : BitVec 32 := 0#32
  let c4_i32_76 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_69 : BitVec 32 := 3#32
  let v115 : BitVec 32 := Scalar.addi v19 c3_i32_69
  let c4_i32_70 : BitVec 32 := 4#32
  let c0_i32_71 : BitVec 32 := 0#32
  let v116 : BitVec 1 := Scalar.cmpi .eq c4_i32_70 c0_i32_71
  let c1_i32_72 : BitVec 32 := 1#32
  let v117 : BitVec 32 := Scalar.select v116 c1_i32_72 c4_i32_70
  let v118 : BitVec 32 := Scalar.remsi v115 v117
  let c0_i32_74 : BitVec 32 := 0#32
  let v120 : BitVec 1 := Scalar.cmpi .slt v118 c0_i32_74
  let c0_i32_75 : BitVec 32 := 0#32
  let v121 : BitVec 1 := Scalar.cmpi .slt v117 c0_i32_75
  let v122 : BitVec 1 := Scalar.xori v120 v121
  let c0_i32_73 : BitVec 32 := 0#32
  let v119 : BitVec 1 := Scalar.cmpi .ne v118 c0_i32_73
  let v123 : BitVec 1 := Scalar.andi v122 v119
  let v124 : BitVec 32 := Scalar.addi v118 v117
  let v125 : BitVec 32 := Scalar.select v123 v124 v118
  let v126 : BitVec 32 := Scalar.muli c4_i32_76 v125
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v127 : BitVec 32 := Scalar.addi v126 v29
  let c1_i32_79 : BitVec 32 := 1#32
  let v130 : BitVec 32 := Scalar.muli v127 c1_i32_79
  let v131 : BitVec 32 := Scalar.addi c0_i32_80 v130
  v131.toNat
def k0_dev7 (d0 : Dev nD) : Nat :=
  let c0_i32_91 : BitVec 32 := 0#32
  let c4_i32_81 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v133 : BitVec 32 := Scalar.muli c4_i32_81 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_82 : BitVec 32 := 1#32
  let v134 : BitVec 32 := Scalar.addi v29 c1_i32_82
  let c4_i32_83 : BitVec 32 := 4#32
  let c0_i32_84 : BitVec 32 := 0#32
  let v135 : BitVec 1 := Scalar.cmpi .eq c4_i32_83 c0_i32_84
  let c1_i32_85 : BitVec 32 := 1#32
  let v136 : BitVec 32 := Scalar.select v135 c1_i32_85 c4_i32_83
  let v137 : BitVec 32 := Scalar.remsi v134 v136
  let c0_i32_87 : BitVec 32 := 0#32
  let v139 : BitVec 1 := Scalar.cmpi .slt v137 c0_i32_87
  let c0_i32_88 : BitVec 32 := 0#32
  let v140 : BitVec 1 := Scalar.cmpi .slt v136 c0_i32_88
  let v141 : BitVec 1 := Scalar.xori v139 v140
  let c0_i32_86 : BitVec 32 := 0#32
  let v138 : BitVec 1 := Scalar.cmpi .ne v137 c0_i32_86
  let v142 : BitVec 1 := Scalar.andi v141 v138
  let v143 : BitVec 32 := Scalar.addi v137 v136
  let v144 : BitVec 32 := Scalar.select v142 v143 v137
  let v145 : BitVec 32 := Scalar.addi v133 v144
  let c1_i32_90 : BitVec 32 := 1#32
  let v146 : BitVec 32 := Scalar.muli v145 c1_i32_90
  let v147 : BitVec 32 := Scalar.addi c0_i32_91 v146
  v147.toNat
def k0_dev8 (d0 : Dev nD) : Nat :=
  let c0_i32_102 : BitVec 32 := 0#32
  let c4_i32_92 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v148 : BitVec 32 := Scalar.muli c4_i32_92 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_93 : BitVec 32 := 3#32
  let v149 : BitVec 32 := Scalar.addi v29 c3_i32_93
  let c4_i32_94 : BitVec 32 := 4#32
  let c0_i32_95 : BitVec 32 := 0#32
  let v150 : BitVec 1 := Scalar.cmpi .eq c4_i32_94 c0_i32_95
  let c1_i32_96 : BitVec 32 := 1#32
  let v151 : BitVec 32 := Scalar.select v150 c1_i32_96 c4_i32_94
  let v152 : BitVec 32 := Scalar.remsi v149 v151
  let c0_i32_98 : BitVec 32 := 0#32
  let v154 : BitVec 1 := Scalar.cmpi .slt v152 c0_i32_98
  let c0_i32_99 : BitVec 32 := 0#32
  let v155 : BitVec 1 := Scalar.cmpi .slt v151 c0_i32_99
  let v156 : BitVec 1 := Scalar.xori v154 v155
  let c0_i32_97 : BitVec 32 := 0#32
  let v153 : BitVec 1 := Scalar.cmpi .ne v152 c0_i32_97
  let v157 : BitVec 1 := Scalar.andi v156 v153
  let v158 : BitVec 32 := Scalar.addi v152 v151
  let v159 : BitVec 32 := Scalar.select v157 v158 v152
  let v160 : BitVec 32 := Scalar.addi v148 v159
  let c1_i32_101 : BitVec 32 := 1#32
  let v161 : BitVec 32 := Scalar.muli v160 c1_i32_101
  let v162 : BitVec 32 := Scalar.addi c0_i32_102 v161
  v162.toNat
def k0_dev9 (d0 : Dev nD) : Nat :=
  let c0_i32_130 : BitVec 32 := 0#32
  let c4_i32_118 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v196 : BitVec 32 := Scalar.muli c4_i32_118 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_119 : BitVec 32 := 1#32
  let v197 : BitVec 32 := Scalar.addi v29 c1_i32_119
  let c4_i32_120 : BitVec 32 := 4#32
  let c0_i32_121 : BitVec 32 := 0#32
  let v198 : BitVec 1 := Scalar.cmpi .eq c4_i32_120 c0_i32_121
  let c1_i32_122 : BitVec 32 := 1#32
  let v199 : BitVec 32 := Scalar.select v198 c1_i32_122 c4_i32_120
  let v200 : BitVec 32 := Scalar.remsi v197 v199
  let c0_i32_124 : BitVec 32 := 0#32
  let v202 : BitVec 1 := Scalar.cmpi .slt v200 c0_i32_124
  let c0_i32_125 : BitVec 32 := 0#32
  let v203 : BitVec 1 := Scalar.cmpi .slt v199 c0_i32_125
  let v204 : BitVec 1 := Scalar.xori v202 v203
  let c0_i32_123 : BitVec 32 := 0#32
  let v201 : BitVec 1 := Scalar.cmpi .ne v200 c0_i32_123
  let v205 : BitVec 1 := Scalar.andi v204 v201
  let v206 : BitVec 32 := Scalar.addi v200 v199
  let v207 : BitVec 32 := Scalar.select v205 v206 v200
  let v208 : BitVec 32 := Scalar.addi v196 v207
  let c1_i32_129 : BitVec 32 := 1#32
  let v209 : BitVec 32 := Scalar.muli v208 c1_i32_129
  let v210 : BitVec 32 := Scalar.addi c0_i32_130 v209
  v210.toNat
def k0_dev10 (d0 : Dev nD) : Nat :=
  let c0_i32_148 : BitVec 32 := 0#32
  let c4_i32_136 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v219 : BitVec 32 := Scalar.muli c4_i32_136 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_137 : BitVec 32 := 2#32
  let v220 : BitVec 32 := Scalar.addi v29 c2_i32_137
  let c4_i32_138 : BitVec 32 := 4#32
  let c0_i32_139 : BitVec 32 := 0#32
  let v221 : BitVec 1 := Scalar.cmpi .eq c4_i32_138 c0_i32_139
  let c1_i32_140 : BitVec 32 := 1#32
  let v222 : BitVec 32 := Scalar.select v221 c1_i32_140 c4_i32_138
  let v223 : BitVec 32 := Scalar.remsi v220 v222
  let c0_i32_142 : BitVec 32 := 0#32
  let v225 : BitVec 1 := Scalar.cmpi .slt v223 c0_i32_142
  let c0_i32_143 : BitVec 32 := 0#32
  let v226 : BitVec 1 := Scalar.cmpi .slt v222 c0_i32_143
  let v227 : BitVec 1 := Scalar.xori v225 v226
  let c0_i32_141 : BitVec 32 := 0#32
  let v224 : BitVec 1 := Scalar.cmpi .ne v223 c0_i32_141
  let v228 : BitVec 1 := Scalar.andi v227 v224
  let v229 : BitVec 32 := Scalar.addi v223 v222
  let v230 : BitVec 32 := Scalar.select v228 v229 v223
  let v231 : BitVec 32 := Scalar.addi v219 v230
  let c1_i32_147 : BitVec 32 := 1#32
  let v232 : BitVec 32 := Scalar.muli v231 c1_i32_147
  let v233 : BitVec 32 := Scalar.addi c0_i32_148 v232
  v233.toNat
def k0_dev11 (d0 : Dev nD) : Nat :=
  let c0_i32_166 : BitVec 32 := 0#32
  let c4_i32_154 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v242 : BitVec 32 := Scalar.muli c4_i32_154 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_155 : BitVec 32 := 3#32
  let v243 : BitVec 32 := Scalar.addi v29 c3_i32_155
  let c4_i32_156 : BitVec 32 := 4#32
  let c0_i32_157 : BitVec 32 := 0#32
  let v244 : BitVec 1 := Scalar.cmpi .eq c4_i32_156 c0_i32_157
  let c1_i32_158 : BitVec 32 := 1#32
  let v245 : BitVec 32 := Scalar.select v244 c1_i32_158 c4_i32_156
  let v246 : BitVec 32 := Scalar.remsi v243 v245
  let c0_i32_160 : BitVec 32 := 0#32
  let v248 : BitVec 1 := Scalar.cmpi .slt v246 c0_i32_160
  let c0_i32_161 : BitVec 32 := 0#32
  let v249 : BitVec 1 := Scalar.cmpi .slt v245 c0_i32_161
  let v250 : BitVec 1 := Scalar.xori v248 v249
  let c0_i32_159 : BitVec 32 := 0#32
  let v247 : BitVec 1 := Scalar.cmpi .ne v246 c0_i32_159
  let v251 : BitVec 1 := Scalar.andi v250 v247
  let v252 : BitVec 32 := Scalar.addi v246 v245
  let v253 : BitVec 32 := Scalar.select v251 v252 v246
  let v254 : BitVec 32 := Scalar.addi v242 v253
  let c1_i32_165 : BitVec 32 := 1#32
  let v255 : BitVec 32 := Scalar.muli v254 c1_i32_165
  let v256 : BitVec 32 := Scalar.addi c0_i32_166 v255
  v256.toNat
def k0_dev12 (d0 : Dev nD) : Nat :=
  let c0_i32_215 : BitVec 32 := 0#32
  let c4_i32_210 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_203 : BitVec 32 := 1#32
  let v296 : BitVec 32 := Scalar.addi v19 c1_i32_203
  let c4_i32_204 : BitVec 32 := 4#32
  let c0_i32_205 : BitVec 32 := 0#32
  let v297 : BitVec 1 := Scalar.cmpi .eq c4_i32_204 c0_i32_205
  let c1_i32_206 : BitVec 32 := 1#32
  let v298 : BitVec 32 := Scalar.select v297 c1_i32_206 c4_i32_204
  let v299 : BitVec 32 := Scalar.remsi v296 v298
  let c0_i32_208 : BitVec 32 := 0#32
  let v301 : BitVec 1 := Scalar.cmpi .slt v299 c0_i32_208
  let c0_i32_209 : BitVec 32 := 0#32
  let v302 : BitVec 1 := Scalar.cmpi .slt v298 c0_i32_209
  let v303 : BitVec 1 := Scalar.xori v301 v302
  let c0_i32_207 : BitVec 32 := 0#32
  let v300 : BitVec 1 := Scalar.cmpi .ne v299 c0_i32_207
  let v304 : BitVec 1 := Scalar.andi v303 v300
  let v305 : BitVec 32 := Scalar.addi v299 v298
  let v306 : BitVec 32 := Scalar.select v304 v305 v299
  let v307 : BitVec 32 := Scalar.muli c4_i32_210 v306
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v308 : BitVec 32 := Scalar.addi v307 v29
  let c1_i32_214 : BitVec 32 := 1#32
  let v309 : BitVec 32 := Scalar.muli v308 c1_i32_214
  let v310 : BitVec 32 := Scalar.addi c0_i32_215 v309
  v310.toNat
def k0_dev13 (d0 : Dev nD) : Nat :=
  let c0_i32_233 : BitVec 32 := 0#32
  let c4_i32_228 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_221 : BitVec 32 := 2#32
  let v319 : BitVec 32 := Scalar.addi v19 c2_i32_221
  let c4_i32_222 : BitVec 32 := 4#32
  let c0_i32_223 : BitVec 32 := 0#32
  let v320 : BitVec 1 := Scalar.cmpi .eq c4_i32_222 c0_i32_223
  let c1_i32_224 : BitVec 32 := 1#32
  let v321 : BitVec 32 := Scalar.select v320 c1_i32_224 c4_i32_222
  let v322 : BitVec 32 := Scalar.remsi v319 v321
  let c0_i32_226 : BitVec 32 := 0#32
  let v324 : BitVec 1 := Scalar.cmpi .slt v322 c0_i32_226
  let c0_i32_227 : BitVec 32 := 0#32
  let v325 : BitVec 1 := Scalar.cmpi .slt v321 c0_i32_227
  let v326 : BitVec 1 := Scalar.xori v324 v325
  let c0_i32_225 : BitVec 32 := 0#32
  let v323 : BitVec 1 := Scalar.cmpi .ne v322 c0_i32_225
  let v327 : BitVec 1 := Scalar.andi v326 v323
  let v328 : BitVec 32 := Scalar.addi v322 v321
  let v329 : BitVec 32 := Scalar.select v327 v328 v322
  let v330 : BitVec 32 := Scalar.muli c4_i32_228 v329
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v331 : BitVec 32 := Scalar.addi v330 v29
  let c1_i32_232 : BitVec 32 := 1#32
  let v332 : BitVec 32 := Scalar.muli v331 c1_i32_232
  let v333 : BitVec 32 := Scalar.addi c0_i32_233 v332
  v333.toNat
def k0_dev14 (d0 : Dev nD) : Nat :=
  let c0_i32_251 : BitVec 32 := 0#32
  let c4_i32_246 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_239 : BitVec 32 := 3#32
  let v342 : BitVec 32 := Scalar.addi v19 c3_i32_239
  let c4_i32_240 : BitVec 32 := 4#32
  let c0_i32_241 : BitVec 32 := 0#32
  let v343 : BitVec 1 := Scalar.cmpi .eq c4_i32_240 c0_i32_241
  let c1_i32_242 : BitVec 32 := 1#32
  let v344 : BitVec 32 := Scalar.select v343 c1_i32_242 c4_i32_240
  let v345 : BitVec 32 := Scalar.remsi v342 v344
  let c0_i32_244 : BitVec 32 := 0#32
  let v347 : BitVec 1 := Scalar.cmpi .slt v345 c0_i32_244
  let c0_i32_245 : BitVec 32 := 0#32
  let v348 : BitVec 1 := Scalar.cmpi .slt v344 c0_i32_245
  let v349 : BitVec 1 := Scalar.xori v347 v348
  let c0_i32_243 : BitVec 32 := 0#32
  let v346 : BitVec 1 := Scalar.cmpi .ne v345 c0_i32_243
  let v350 : BitVec 1 := Scalar.andi v349 v346
  let v351 : BitVec 32 := Scalar.addi v345 v344
  let v352 : BitVec 32 := Scalar.select v350 v351 v345
  let v353 : BitVec 32 := Scalar.muli c4_i32_246 v352
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v354 : BitVec 32 := Scalar.addi v353 v29
  let c1_i32_250 : BitVec 32 := 1#32
  let v355 : BitVec 32 := Scalar.muli v354 c1_i32_250
  let v356 : BitVec 32 := Scalar.addi c0_i32_251 v355
  v356.toNat
abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S8192x512 : Shape := ⟨2, ![8192, 512]⟩
abbrev S512 : Shape := ⟨1, ![512]⟩
abbrev S_ : Shape := ⟨0, ![]⟩
abbrev S8192 : Shape := ⟨1, ![8192]⟩
abbrev S8192x1 : Shape := ⟨2, ![8192, 1]⟩
abbrev S1x512 : Shape := ⟨2, ![1, 512]⟩
abbrev S2x512 : Shape := ⟨2, ![2, 512]⟩

abbrev nBuf : Space → Nat
  | .hbm => 54
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S512, .bf16⟩
  | .hbm, ⟨3, _⟩ => ⟨S8192x512, .f32⟩
  | .hbm, ⟨4, _⟩ => ⟨S8192x512, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .i32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x512, .f32⟩
  | .hbm, ⟨19, _⟩ => ⟨S8192x512, .f32⟩
  | .hbm, ⟨20, _⟩ => ⟨S8192x512, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S_, .i1⟩
  | .hbm, ⟨31, _⟩ => ⟨S_, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192x512, .f32⟩
  | .hbm, ⟨43, _⟩ => ⟨S8192x512, .f32⟩
  | .hbm, ⟨44, _⟩ => ⟨S8192x512, .f32⟩
  | .hbm, ⟨45, _⟩ => ⟨S8192x512, .f32⟩
  | .hbm, ⟨46, _⟩ => ⟨S8192x512, .f32⟩
  | .hbm, ⟨47, _⟩ => ⟨S_, .f32⟩
  | .hbm, ⟨48, _⟩ => ⟨S512, .f32⟩
  | .hbm, ⟨49, _⟩ => ⟨S_, .f32⟩
  | .hbm, ⟨50, _⟩ => ⟨S512, .f32⟩
  | .hbm, ⟨51, _⟩ => ⟨S1x512, .f32⟩
  | .hbm, ⟨52, _⟩ => ⟨S1x512, .f32⟩
  | .hbm, ⟨53, _⟩ => ⟨S2x512, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_cst_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_cst_1 : Ref sig .tc := ⟨.hbm, 22, rfl⟩
abbrev main_call0_v8 : Ref sig .tc := ⟨.hbm, 23, rfl⟩
abbrev main_call0_cst_2 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_cst_3 : Ref sig .tc := ⟨.hbm, 29, rfl⟩
abbrev main_call0_v13 : Ref sig .tc := ⟨.hbm, 30, rfl⟩
abbrev main_call0_cst_4 : Ref sig .tc := ⟨.hbm, 31, rfl⟩
abbrev main_call0_call0_v0 : Ref sig .tc := ⟨.hbm, 32, rfl⟩
abbrev main_call0_call0_v1 : Ref sig .tc := ⟨.hbm, 33, rfl⟩
abbrev main_v6 : Ref sig .tc := ⟨.hbm, 34, rfl⟩
abbrev main_cst_1 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_cst_2 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_cst_3 : Ref sig .tc := ⟨.hbm, 47, rfl⟩
abbrev main_v17 : Ref sig .tc := ⟨.hbm, 48, rfl⟩
abbrev main_cst_4 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩

abbrev nD : Nat := 1
abbrev τ : Topo := Topo.v7x

variable {F : FTy → Type} [FloatOps F]
-- ==== Proof.Mesh.Cells.lean ====
/-
The mesh, the buffers and the semaphores of the two-phase all-reduce.

Sixteen devices stand in four planes of four: device `4z + p` is column `p` of plane `z`. The kernel exchanges its
partial result first within the plane (phase `false`), then along the column (phase `true`). In each phase a device has
three peers, `a = 0, 1, 2`, at distance `a + 1`; the array of landing slots and the three semaphore arrays of a phase are
indexed by `a + 1`, entry 0 unused. Everything here is stated once for a phase and a distance.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Tactic

@[expose] public section

noncomputable section

namespace Cert.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The peers -/

set_option backward.proofsInPublic true in
/-- The device at distance `a + 1` from `c`: in its plane (`false`), along its column (`true`). -/
def peer (ph : Bool) (a : Fin 3) (c : Dev nD) : Dev nD :=
  bif ph then ⟨4 * ((c.val / 4 + a.val + 1) % 4) + c.val % 4, by have := c.isLt; show _ < 16; omega⟩
  else ⟨4 * (c.val / 4) + (c.val % 4 + a.val + 1) % 4, by have := c.isLt; change c.val < 16 at this; show _ < 16; omega⟩

/-- Going a distance and then the complementary one comes back. -/
theorem peer_rev (ph : Bool) (a : Fin 3) (c : Dev nD) : peer ph a.rev (peer ph a c) = c := by
  revert ph a c; decide +kernel
theorem peer_rev' (ph : Bool) (a : Fin 3) (c : Dev nD) : peer ph a (peer ph a.rev c) = c := by
  revert ph a c; decide +kernel

/-- The devices permuted by going one distance. -/
def hop (ph : Bool) (a : Fin 3) : Dev nD ≃ Dev nD := ⟨peer ph a, peer ph a.rev, peer_rev ph a, peer_rev' ph a⟩

theorem dev1_eq (c : Dev nD) : (⟨k0_dev1 c, k0_dev1_lt c⟩ : Dev nD) = peer false 0 c := by revert c; decide +kernel
theorem dev2_eq (c : Dev nD) : (⟨k0_dev2 c, k0_dev2_lt c⟩ : Dev nD) = peer true 0 c := by revert c; decide +kernel
theorem dev3_eq (c : Dev nD) : (⟨k0_dev3 c, k0_dev3_lt c⟩ : Dev nD) = peer false 1 c := by revert c; decide +kernel
theorem dev4_eq (c : Dev nD) : (⟨k0_dev4 c, k0_dev4_lt c⟩ : Dev nD) = peer true 1 c := by revert c; decide +kernel
theorem dev5_eq (c : Dev nD) : (⟨k0_dev5 c, k0_dev5_lt c⟩ : Dev nD) = peer false 2 c := by revert c; decide +kernel
theorem dev6_eq (c : Dev nD) : (⟨k0_dev6 c, k0_dev6_lt c⟩ : Dev nD) = peer true 2 c := by revert c; decide +kernel
theorem dev7_eq (c : Dev nD) : (⟨k0_dev7 c, k0_dev7_lt c⟩ : Dev nD) = peer false 0 c := by revert c; decide +kernel
theorem dev8_eq (c : Dev nD) : (⟨k0_dev8 c, k0_dev8_lt c⟩ : Dev nD) = peer false 2 c := by revert c; decide +kernel
theorem dev9_eq (c : Dev nD) : (⟨k0_dev9 c, k0_dev9_lt c⟩ : Dev nD) = peer false 0 c := by revert c; decide +kernel
theorem dev10_eq (c : Dev nD) : (⟨k0_dev10 c, k0_dev10_lt c⟩ : Dev nD) = peer false 1 c := by revert c; decide +kernel
theorem dev11_eq (c : Dev nD) : (⟨k0_dev11 c, k0_dev11_lt c⟩ : Dev nD) = peer false 2 c := by revert c; decide +kernel
theorem dev12_eq (c : Dev nD) : (⟨k0_dev12 c, k0_dev12_lt c⟩ : Dev nD) = peer true 0 c := by revert c; decide +kernel
theorem dev13_eq (c : Dev nD) : (⟨k0_dev13 c, k0_dev13_lt c⟩ : Dev nD) = peer true 1 c := by revert c; decide +kernel
theorem dev14_eq (c : Dev nD) : (⟨k0_dev14 c, k0_dev14_lt c⟩ : Dev nD) = peer true 2 c := by revert c; decide +kernel

/-! ## The buffers -/

/-- What a phase sends: the device's own partial result, then its plane's sum. -/
def srcM : Bool → Memref sig .tc .vmem S2x512 .f32
  | false => Memref.whole cc0_scratch0
  | true => Memref.whole cc0_scratch1
/-- The array of landing slots of a phase. -/
def commM : Bool → Memref sig .tc .vmem S4x2x512 .f32
  | false => Memref.whole cc0_scratch2
  | true => Memref.whole cc0_scratch3

theorem inbSlot (k : Fin 4) : ∀ a, (![k.val, 0, 0] : Fin 3 → Nat) a + S1x2x512.size a ≤ S4x2x512.size a := by
  revert k; decide
/-- The window of slot `k` in the array of slots. -/
abbrev slotR (k : Fin 4) : Rect S4x2x512 := Rect.unit (s := S4x2x512) ![k.val, 0, 0] S1x2x512.size (inbSlot k)
/-- Slot `k` of a phase, as the transfers see it. -/
def slotM (ph : Bool) (k : Fin 4) : Memref sig .tc .vmem S2x512 .f32 :=
  ((commM ph).slice (slotR k) (fun _ => rfl)).squeeze S2x512 squeezes_S1x2x512_S2x512

/-! ## The semaphores -/

/-- What a semaphore of a phase is for: a peer's slot is ready, a transfer has been read out, a transfer has landed. -/
inductive Role where
  | ready | send | recv
  deriving DecidableEq

instance : Fintype Role := ⟨{.ready, .send, .recv}, fun r => by cases r <;> decide⟩

/-- The kernel's own semaphores in use: role, phase, distance. -/
abbrev Own : Type := Role × Bool × Fin 3
/-- All semaphores of the protocol: the runtime's barrier (`none`) and the kernel's own. -/
abbrev Cell : Type := Option Own

set_option backward.proofsInPublic true in
/-- The kernel's own semaphores, as printed: entry `a + 1` of the phase's array of that role. -/
def osem : Own → SemLoc sig
  | (.ready, ph, a) => .reg ⟨(bif ph then 4 else 0) + (a.val + 1), by show _ < 9; have := a.isLt; cases ph <;> simp <;> omega⟩
  | (.send, ph, a) => .dma ⟨(bif ph then 11 else 3) + (a.val + 1), by show _ < 19; have := a.isLt; cases ph <;> simp <;> omega⟩
  | (.recv, ph, a) => .dma ⟨(bif ph then 15 else 7) + (a.val + 1), by show _ < 19; have := a.isLt; cases ph <;> simp <;> omega⟩

/-- The runtime's barrier semaphore of collective id 0. -/
abbrev barS : Sem sig := (SemArray.scalar (sig.barrier 0 rfl) : Sems sig S_).sem

def csem : Cell → SemLoc sig
  | none => .reg barS
  | some x => osem x

/-- Which cell of the protocol a semaphore is, if any. -/
def cellAt : SemLoc sig → Option Cell
  | .reg s => match s.val with
    | 1 => some (some (.ready, false, 0)) | 2 => some (some (.ready, false, 1)) | 3 => some (some (.ready, false, 2))
    | 5 => some (some (.ready, true, 0)) | 6 => some (some (.ready, true, 1)) | 7 => some (some (.ready, true, 2))
    | 8 => some none
    | _ => none
  | .dma s => match s.val with
    | 4 => some (some (.send, false, 0)) | 5 => some (some (.send, false, 1)) | 6 => some (some (.send, false, 2))
    | 8 => some (some (.recv, false, 0)) | 9 => some (some (.recv, false, 1)) | 10 => some (some (.recv, false, 2))
    | 12 => some (some (.send, true, 0)) | 13 => some (some (.send, true, 1)) | 14 => some (some (.send, true, 2))
    | 16 => some (some (.recv, true, 0)) | 17 => some (some (.recv, true, 1)) | 18 => some (some (.recv, true, 2))
    | _ => none

theorem cellAt_csem (k : Cell) : cellAt (csem k) = some k := by revert k; decide +kernel
theorem csem_injective : Function.Injective csem := fun a b h =>
  Option.some.inj ((cellAt_csem a).symm.trans ((congrArg cellAt h).trans (cellAt_csem b)))

/-- Device `c`'s semaphore. -/
abbrev cellG (c : Dev nD) (k : Cell) : GSem nD τ sig := ((c : Thread nD τ), csem k)

theorem cellG_injective : Function.Injective (fun ck : Dev nD × Cell => cellG ck.1 ck.2) := by
  rintro ⟨c, k⟩ ⟨c', k'⟩ h
  have h1 : c = c' := congrArg (fun g : GSem nD τ sig => g.1.1) h
  have h2 : k = k' := csem_injective (congrArg Prod.snd h)
  rw [h1, h2]

theorem cellG_eq_iff {c c' : Dev nD} {k k' : Cell} : cellG c k = cellG c' k' ↔ c = c' ∧ k = k' :=
  ⟨fun h => by have := cellG_injective (a₁ := (c, k)) (a₂ := (c', k')) h; exact ⟨congrArg Prod.fst this, congrArg Prod.snd this⟩,
    fun h => by rw [h.1, h.2]⟩

/-- The units one transfer of a partial result pays: the tile credit of its shape. -/
abbrev N : ℕ := (Memref.whole cc0_scratch0 : Memref sig .tc .vmem S2x512 .f32).view.dmaCredit
theorem N_pos : 0 < N := View.dmaCredit_pos _ (by decide)

end Cert.Mesh

end
-- ==== Proof.Mesh.Schedule.lean ====
/-
The protocol of the two-phase all-reduce: what every transfer carries, who pays which semaphore and what each payment
hands over, what a device owes at each point of its body, and the levels that order the waits.

- A device announces to its peer at distance `a + 1` that its landing slot `a + 1` is free: one unit on that peer's
  ready semaphore at the complementary distance. The announcement hands the slot over.
- It signals the runtime's barrier of two neighbours and waits for two units there; nothing is handed over.
- A transfer to the peer at distance `a + 1` waits for that peer's announcement, fills the slot it received and pays the
  device's own send semaphore and the peer's receive semaphore. The send semaphore hands the borrowed share of the source
  back, the receive semaphore the filled slot.
-/
module

public import proofs.«01_k».proof.Proof.Mesh.Cells

@[expose] public section

noncomputable section

namespace Cert.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The protocol's ghost state (duties named by a Boolean) beside the pipeline's. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every semaphore at zero, any generator registers. -/
def s₀ : MemSt nD τ sig (Elt F) := ⟨m, fun _ => 0, ρ⟩

/-! ## The contents -/

/-- A device's block of the first argument, as staged; -/
def xstg (c : Dev nD) : (cc0_stg0_0 : Ref sig .tc).ty.Contents (Elt F) :=
  (win0_0.blk (0 : Fin 1)).view.read (Elt F) ((s₀ m ρ).mem ((c : Thread nD τ).loc main_arg0))
/-- its block of the second. -/
def ystg (c : Dev nD) : (cc0_stg1_0 : Ref sig .tc).ty.Contents (Elt F) :=
  (win0_1.blk (0 : Fin 1)).view.read (Elt F) ((s₀ m ρ).mem ((c : Thread nD τ).loc main_arg1))

/-- A family's value at `c` and at its three peers of a phase, added up in order of distance. -/
def add4 (f : Dev nD → FVec F S2x512 .f32) (ph : Bool) (c : Dev nD) : FVec F S2x512 .f32 :=
  addf (addf (addf (f c) (f (peer ph 0 c))) (f (peer ph 1 c))) (f (peer ph 2 c))

/-- The partial result of a device's own block; -/
def own (c : Dev nD) : FVec F S2x512 .f32 :=
  k0_pay4 (k0_pay1 (ystg m ρ c)) (k0_pay2 (xstg m ρ c)) (k0_pay3 (xstg m ρ c))
/-- what a device sends in a phase: its own partial result, then its plane's sum; -/
def val : Bool → Dev nD → FVec F S2x512 .f32
  | false => own m ρ
  | true => add4 (own m ρ) false
/-- and its result: the sum of the plane sums along its column. -/
def outAt (c : Dev nD) : FVec F S2x512 .f32 := add4 (val m ρ true) true c

/-! ## What each payment hands over -/

/-- The share of the source lent to the transfer at distance `a + 1`; the fourth part stays for the load. -/
def lent : Fin 3 → PosShare TreeShare
  | 0 => fullShare.left.left
  | 1 => fullShare.left.right
  | 2 => fullShare.right.left

/-- Slot `k` of a phase on device `d`, at some contents. -/
def slotAny (ph : Bool) (k : Fin 4) (d : Dev nD) : sProp 𝕄 :=
  iprop(∃ f, (slotM ph k).view.loc (d : Thread nD τ) ↦[(slotM ph k).view.set]{fullShare} f)

/-- The payload of each of the kernel's own semaphores on device `d`. -/
def pay : Own → Dev nD → sProp 𝕄
  | (.ready, ph, b), d => slotAny ph b.rev.succ (peer ph b d)
  | (.send, ph, a), d => owns (d : Thread nD τ) (srcM ph) (lent a) (val m ρ ph d)
  | (.recv, ph, j), d => owns (d : Thread nD τ) (slotM ph j.succ) fullShare (val m ρ ph (peer ph j d))

/-- The payload of a whole round of a cell. -/
def payOf : Cell → Dev nD → sProp 𝕄
  | none, _ => iprop(emp)
  | some x, d => pay m ρ x d

theorem payOf_ready (ph : Bool) (b : Fin 3) (d : Dev nD) :
    payOf m ρ (some (.ready, ph, b)) d = slotAny (F := F) ph b.rev.succ (peer ph b d) := rfl
theorem payOf_send (ph : Bool) (a : Fin 3) (d : Dev nD) :
    payOf m ρ (some (.send, ph, a)) d = owns (d : Thread nD τ) (srcM ph) (lent a) (val m ρ ph d) := rfl
theorem payOf_recv (ph : Bool) (j : Fin 3) (d : Dev nD) :
    payOf m ρ (some (.recv, ph, j)) d = owns (d : Thread nD τ) (slotM ph j.succ) fullShare (val m ρ ph (peer ph j d)) := rfl

/-- Units of one payment on a cell. -/
def amt : Cell → ℕ
  | none => 1
  | some (.ready, _, _) => 1
  | some (.send, _, _) => N
  | some (.recv, _, _) => N
/-- Who pays a cell: two neighbours the barrier, one device any other. -/
def payers : Cell → Finset Bool
  | none => Finset.univ
  | some _ => {false}

theorem amt_pos (k : Cell) : 0 < amt k := by
  match k with
  | none => exact Nat.one_pos
  | some (.ready, _, _) => exact Nat.one_pos
  | some (.send, _, _) => exact N_pos
  | some (.recv, _, _) => exact N_pos

/-- One round: every cell of the protocol is paid once by each of its payers. -/
def rd : Rounds.Schedule (GSem nD τ sig) Bool 𝕄 where
  duties g r := if r = 0 ∧ g.1.2 = .tc then (match cellAt g.2 with | none => ∅ | some k => payers k) else ∅
  unitless _ := False
  amount g _ _ := match cellAt g.2 with | none => 1 | some k => amt k
  payload g _ _ := match cellAt g.2 with | none => iprop(emp) | some k => payOf m ρ k g.1.1
  amount_pos g _ _ _ := by
    cases cellAt g.2 with
    | none => exact Nat.one_pos
    | some k => exact amt_pos k

instance pay_storable (x : Own) (d : Dev nD) : BI.Storable (upEmb : UEmb _ 𝕄) (pay (F := F) m ρ x d) := by
  match x with
  | (.ready, ph, b) => unfold pay slotAny; infer_instance
  | (.send, ph, a) => unfold pay owns; infer_instance
  | (.recv, ph, j) => unfold pay owns; infer_instance

instance payOf_storable (k : Cell) (d : Dev nD) : BI.Storable (upEmb : UEmb _ 𝕄) (payOf (F := F) m ρ k d) := by
  cases k with
  | none => unfold payOf; infer_instance
  | some x => unfold payOf; infer_instance

instance rd_payload_storable (g : GSem nD τ sig) (r : ℕ) (d : Bool) :
    BI.Storable (upEmb : UEmb _ 𝕄) ((rd (F := F) m ρ).payload g r d) := by
  show BI.Storable upEmb (match cellAt g.2 with | none => iprop(emp) | some k => payOf m ρ k g.1.1)
  cases cellAt g.2 with
  | none => infer_instance
  | some k => infer_instance

theorem duties_cell (c : Dev nD) (k : Cell) : (rd (F := F) m ρ).duties (cellG c k) 0 = payers k := by
  dsimp only [rd]; rw [if_pos ⟨rfl, rfl⟩, cellAt_csem]
theorem duties_later (g : GSem nD τ sig) : ∀ r, 1 ≤ r → (rd (F := F) m ρ).duties g r = ∅ :=
  fun r hr => by dsimp only [rd]; rw [if_neg fun h => by omega]
theorem amount_cell (c : Dev nD) (k : Cell) (d : Bool) : (rd (F := F) m ρ).amount (cellG c k) 0 d = amt k := by
  dsimp only [rd]; rw [cellAt_csem]
theorem payload_cell (c : Dev nD) (k : Cell) (d : Bool) : (rd (F := F) m ρ).payload (cellG c k) 0 d = payOf m ρ k c := by
  dsimp only [rd]; rw [cellAt_csem]

/-- Units of a whole round. -/
def need : Cell → ℕ
  | none => 2
  | some x => amt (some x)

theorem expect_cell (c : Dev nD) (k : Cell) : (rd (F := F) m ρ).expect (cellG c k) 0 = need k := by
  unfold Schedule.expect Schedule.amountOf
  rw [duties_cell, Finset.sum_congr rfl fun d _ => amount_cell m ρ c k d, Finset.sum_const, smul_eq_mul]
  cases k with
  | none => rfl
  | some x => rw [show (payers (some x)).card = 1 from rfl, Nat.one_mul]; rfl

theorem rest_cell (c : Dev nD) (k : Cell) :
    bigSep ((rd (F := F) m ρ).duties (cellG c k) 0 \ ∅) (fun d => (rd (F := F) m ρ).payload (cellG c k) 0 d) ⊢ payOf m ρ k c := by
  rw [Finset.sdiff_empty, duties_cell]
  cases k with
  | none => iintro -; unfold payOf; iempintro
  | some x => rw [show payers (some x) = {false} from rfl, bigSep_singleton, payload_cell]

/-! ## What a device owes, and the levels -/

/-- A list of payments (device, cell) as owed credit. -/
def owe : List (Dev nD × Cell) → CellTallies nD τ sig Unit
  | [] => 0
  | x :: l => owe l + tallyAt (cellG x.1 x.2) () (amt x.2)

theorem owe_cons (x : Dev nD × Cell) (l : List (Dev nD × Cell)) : owe (x :: l) = owe l + tallyAt (cellG x.1 x.2) () (amt x.2) := rfl

/-- Device `c` owes the payments of a list, whatever it has waited for. -/
def oweSt (c : Dev nD) (l : List (Dev nD × Cell)) : sProp 𝕄 := iprop(∃ W : Waits sig Unit, owes (c : Thread nD τ) (owe l) W)

/-- The payments of device `c`, as (peer, cell): an announcement; a barrier signal; a landing. -/
abbrev annP (c : Dev nD) (ph : Bool) (a : Fin 3) : Dev nD × Cell := (peer ph a c, some (.ready, ph, a.rev))
abbrev barP (c : Dev nD) (a : Fin 3) : Dev nD × Cell := (peer false a c, none)
abbrev landP (c : Dev nD) (ph : Bool) (a : Fin 3) : Dev nD × Cell := (peer ph a c, some (.recv, ph, a.rev))

/-- All payments of device `c` on others' cells, in program order. -/
def owed (c : Dev nD) : List (Dev nD × Cell) :=
  [annP c false 0, annP c true 0, annP c false 1, annP c true 1, annP c false 2, annP c true 2, barP c 0, barP c 2,
    landP c false 0, landP c false 1, landP c false 2, landP c true 0, landP c true 1, landP c true 2]

def L (g : GSem nD τ sig) : Finset Unit := if g.1.2 = .tc then {()} else ∅
/-- Levels: staging and send 0; announcements and the barrier 1; landings 2 within the plane, 3 along the column. -/
def lvl : Cell → ℕ
  | none => 1
  | some (.ready, _, _) => 1
  | some (.send, _, _) => 0
  | some (.recv, ph, _) => bif ph then 3 else 2
def lv (g : GSem nD τ sig) (_ : Unit) : ℕ := match cellAt g.2 with | none => 0 | some k => lvl k

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Cell) (u : Unit) : lv (cellG c k) u = lvl k := by unfold lv; rw [cellAt_csem]

/-- Credit owed under a list sits at one of its cells. -/
theorem owe_pos {l : List (Dev nD × Cell)} {g : GSem nD τ sig} {u : Unit} (h : 0 < owe l g u) : ∃ x ∈ l, g = cellG x.1 x.2 := by
  induction l with
  | nil => exact absurd h (Nat.lt_irrefl 0)
  | cons x l ih =>
    unfold owe at h
    rw [Pi.add_apply, Finsupp.add_apply, tallyAt_apply] at h
    by_cases hx : g = cellG x.1 x.2
    · exact ⟨x, List.mem_cons_self, hx⟩
    · rw [if_neg (fun h' => hx h'.1), Nat.add_zero] at h
      obtain ⟨y, hy, e⟩ := ih h
      exact ⟨y, List.mem_cons_of_mem _ hy, e⟩

/-- A wait is allowed when every payment still owed is on a cell of a higher level. -/
theorem mayWait_owe (c : Dev nD) (sm : SemLoc sig) (n : ℕ) (hn : lv ((c : Thread nD τ), sm) () = n) (l : List (Dev nD × Cell))
    (hl : (l.map Prod.snd).all (fun k => decide (n < lvl k)) = true) :
    (levAts L lv : sProp 𝕄) ⊢ MayWait (c : Thread nD τ) sm () (owe l) := by
  have hl' (x) (hx : x ∈ l) : n < lvl x.2 := of_decide_eq_true (List.all_eq_true.mp hl _ (List.mem_map_of_mem hx))
  refine MayOwe.of_cut (L := L) (lev := lv) n (fun p hp => by rw [Finset.mem_singleton.mp hp, L_tc]; exact Finset.mem_singleton_self _)
    (fun g u hg => by obtain ⟨x, _, rfl⟩ := owe_pos hg; rw [L_tc]; exact Finset.mem_singleton_self _)
    (fun p hp => by rw [Finset.mem_singleton.mp hp]; exact hn.le)
    (fun g u hg => by obtain ⟨x, hx, rfl⟩ := owe_pos hg; rw [lv_cell]; exact hl' x hx)

end Cert.Mesh

end
-- ==== Proof.Mesh.Steps.lean ====
/-
One rule for each kind of step of the body, for a device, a phase and a distance: a signal, a wait (its semaphore closed
at zero at once, as every semaphore has one round), a transfer, and the loads and stores of whole buffers and of slots.
-/
module

public import proofs.«01_k».proof.Proof.Mesh.Schedule

@[expose] public section

noncomputable section

namespace Cert.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The weakest precondition of a device's core. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- The invariants of all cells of all devices, and that each is at its first round. -/
def records (K : Dev nD × Cell → ℕ) : sProp 𝕄 :=
  iprop((bigSep Finset.univ fun ck : Dev nD × Cell => cellInv ER (rd m ρ) (K ck) (cellG ck.1 ck.2))
    ∗ bigSep Finset.univ fun ck : Dev nD × Cell => reached ER (cellG ck.1 ck.2) 0)

instance records_persistent (K : Dev nD × Cell → ℕ) : BI.Persistent (records m ρ K) := by unfold records; infer_instance

theorem inv_at (K : Dev nD × Cell → ℕ) (ck : Dev nD × Cell) :
    (bigSep Finset.univ fun ck : Dev nD × Cell => (cellInv ER (rd m ρ) (K ck) (cellG ck.1 ck.2) : sProp 𝕄))
      ⊢ cellInv ER (rd m ρ) (K ck) (cellG ck.1 ck.2) :=
  bigSep_elim (Finset.mem_univ ck)
theorem reached_at (ck : Dev nD × Cell) :
    (bigSep Finset.univ fun ck : Dev nD × Cell => (reached ER (cellG ck.1 ck.2) 0 : sProp 𝕄)) ⊢ reached ER (cellG ck.1 ck.2) 0 :=
  bigSep_elim (Finset.mem_univ ck)

theorem records_inv (K : Dev nD × Cell → ℕ) (c : Dev nD) (k : Cell) :
    records m ρ K ⊢ cellInv ER (rd m ρ) (K (c, k)) (cellG c k) := by
  unfold records
  iintro ⟨#HI, -⟩
  iapply (inv_at m ρ K (c, k)); iexact HI

theorem records_reached (K : Dev nD × Cell → ℕ) (c : Dev nD) (k : Cell) :
    records m ρ K ⊢ reached ER (cellG c k) 0 := by
  unfold records
  iintro ⟨-, #HR⟩
  iapply (reached_at (F := F) (c, k)); iexact HR

variable (K : Dev nD × Cell → ℕ)

/-- A signal of one unit on cell `k` of device `d`, the first payment still owed: the payment's duty and what it hands over
    are given up. -/
theorem step_signal (c d : Dev nD) (k : Cell) (b : Bool) (l : List (Dev nD × Cell)) {n : Dev nD} (hn : n = d) {s : Sem sig}
    (hs : SemLoc.reg s = csem k) (hb : b ∈ payers k) (hk : amt k = 1) {u : ℕ} (hu : u = 1) {α : Type} {Q : α → sProp 𝕄}
    {kont : PUnit → Prog (TpuEff nD τ sig (Elt F) Λ₀ .tc) α} :
    iprop(records m ρ K ∗ oweSt (F := F) c ((d, k) :: l) ∗ dutyTok ER (cellG d k) 0 b ∗ payOf m ρ k d)
      ⊢ iprop((oweSt (F := F) c l -∗ wpc c (kont ⟨⟩) Q) -∗ wpc c (.op (.semSignal (Dev.tc n : Thread nD τ) s u) kont) Q) := by
  subst hn
  have hg : ((Dev.tc n : Thread nD τ), SemLoc.reg s) = cellG n k := by rw [hs]
  unfold oweSt
  iintro ⟨#HR, ⟨%W, HO⟩, Ht, Hp⟩ Hk
  iapply (Rounds.wp_signal 𝒱₀ ER (rd m ρ) (c : Thread nD τ) none (dst := (Dev.tc n : Thread nD τ)) (sem := s) (r := 0) (κ := K (n, k)) (d := b) (k' := u)
      (by rw [hg, duties_cell]; exact hb) (by rw [hg, amount_cell, hk, hu]) () (owe l) (O₀ := owe ((n, k) :: l)) (W := W)
      (by rw [hg, owe_cons]; show _ = owe l + tallyAt (cellG n k) () u; rw [hu, hk])) $$ [HO Ht Hp]
  · rw [hg]
    isplitr; · iapply (records_inv m ρ K n k); iexact HR
    isplitl [HO]; · iexact HO
    isplitl [Ht]; · iexact Ht
    isplitl [Hp]; · rw [payload_cell]; iexact Hp
    iapply (records_reached m ρ K n k); iexact HR
  iintro HO
  iapply Hk
  iexists W; iexact HO

/-- What a wait on cell `k` takes: the device's position there and the credit of the round. -/
def toWait (c : Dev nD) (k : Cell) : sProp 𝕄 :=
  iprop(atPos ER (cellG c k) 0 ∅ 0 ∗ cred (tallyAt (cellG c k) () (need k)))

/-- A wait for the whole round of cell `k`, whatever operation waits: the round's payload comes, and the semaphore closes
    at zero. -/
theorem step_wait_of (c : Dev nD) (k : Cell) (l : List (Dev nD × Cell))
    (hl : (l.map Prod.snd).all (fun k' => decide (lvl k < lvl k')) = true) {α : Type} {Q : α → sProp 𝕄}
    {w : TpuEff nD τ sig (Elt F) Λ₀ .tc PUnit} {sm : SemLoc sig} {u : ℕ}
    (hw : ∀ P : PUnit → sProp 𝕄, wpE (defs₀ (F := F)) 𝒱₀ (c : Thread nD τ) none Set.univ w P = waitSpec (c : Thread nD τ) Set.univ sm u P)
    (hs : sm = csem k) (hu : u = need k) {kont : PUnit → Prog (TpuEff nD τ sig (Elt F) Λ₀ .tc) α} :
    iprop(records m ρ K ∗ levAts L lv ∗ oweSt (F := F) c l ∗ toWait (F := F) c k)
      ⊢ iprop((iprop(oweSt (F := F) c l ∗ semVal (cellG c k) 0 ∗ payOf m ρ k c) -∗ wpc c (kont ⟨⟩) Q) -∗ wpc c (.op w kont) Q) := by
  subst hs hu
  unfold oweSt toWait
  iintro ⟨#HR, #Hlev, ⟨%W, HO⟩, Hat, Hc⟩ Hk
  iapply (Rounds.wp_wait_rest_token 𝒱₀ ER (rd m ρ) (c : Thread nD τ) none (κ := K (c, k)) (sm := csem k) (k' := need k)
      hw (Set.mem_univ _) () (O := owe l) (W := W) (R := 0) (m := 0) (T := ∅)
      (by rw [Nat.zero_add]; exact (expect_cell m ρ c k).symm)) $$ [Hc HO Hat]
  · isplitr; · iapply (records_inv m ρ K c k); iexact HR
    isplitl [Hc]; · iexact Hc
    isplitl [HO]; · iexact HO
    isplitr; · iapply (mayWait_owe c (csem k) (lvl k) (lv_cell c k ()) l hl); iexact Hlev
    iexact Hat
  iintro ⟨HO, Hat, -, Hpay⟩
  ihave Hp := (rest_cell m ρ c k) $$ Hpay
  imod (Rounds.cell_close ER (rd m ρ) (Set.mem_univ (K (c, k))) (fun h => h) (R := 0 + 1) (duties_later m ρ (cellG c k))) $$ [Hat] with Hz
  · isplitr; · iapply (records_inv m ρ K c k); iexact HR
    iexact Hat
  iapply Hk
  isplitl [HO]; · iexists _; iexact HO
  isplitl [Hz] <;> iassumption

/-- A wait on a regular semaphore. -/
theorem step_semWait (c : Dev nD) (k : Cell) (l : List (Dev nD × Cell))
    (hl : (l.map Prod.snd).all (fun k' => decide (lvl k < lvl k')) = true) {α : Type} {Q : α → sProp 𝕄} {s : Sem sig}
    (hs : SemLoc.reg s = csem k) {u : ℕ} (hu : u = need k) {kont : PUnit → Prog (TpuEff nD τ sig (Elt F) Λ₀ .tc) α} :
    iprop(records m ρ K ∗ levAts L lv ∗ oweSt (F := F) c l ∗ toWait (F := F) c k)
      ⊢ iprop((iprop(oweSt (F := F) c l ∗ semVal (cellG c k) 0 ∗ payOf m ρ k c) -∗ wpc c (kont ⟨⟩) Q) -∗ wpc c (.op (.semWait s u) kont) Q) :=
  step_wait_of m ρ K c k l hl (wpE_semWait_eq 𝒱₀ (c : Thread nD τ) none Set.univ) hs hu

/-- A wait on a transfer's semaphore, whatever memrefs it names, the destination paying `N`. -/
theorem step_dmaWait (c : Dev nD) (k : Cell) (l : List (Dev nD × Cell))
    (hl : (l.map Prod.snd).all (fun k' => decide (lvl k < lvl k')) = true) {α : Type} {Q : α → sProp 𝕄} {s : DmaSem sig}
    (hs : SemLoc.dma s = csem k) {sp sp' : Space} {sh sh' : Shape} {e e' : EltTy} {src : Memref sig .tc sp' sh' e'} {κ' : Kind} {dst : Memref sig κ' sp sh e}
    {hsrc : src.view.WordExact} {hdst : dst.view.WordExact} (hu : dst.view.dmaCredit = need k)
    {kont : PUnit → Prog (TpuEff nD τ sig (Elt F) Λ₀ .tc) α} :
    iprop(records m ρ K ∗ levAts L lv ∗ oweSt (F := F) c l ∗ toWait (F := F) c k)
      ⊢ iprop((iprop(oweSt (F := F) c l ∗ semVal (cellG c k) 0 ∗ payOf m ρ k c) -∗ wpc c (kont ⟨⟩) Q)
          -∗ wpc c (.op (.waitDma2 s src dst hsrc hdst) kont) Q) :=
  step_wait_of m ρ K c k l hl (wpE_waitDma2_eq 𝒱₀ (c : Thread nD τ) none Set.univ) hs hu

/-- The transfer of a phase to the peer at distance `a + 1`: a share of the source is lent, the peer's slot filled. -/
theorem step_send (c : Dev nD) (ph : Bool) (a : Fin 3) (l : List (Dev nD × Cell)) {n : Dev nD} (hn : n = peer ph a c)
    {src dst : Memref sig .tc .vmem S2x512 .f32} (hsrc' : src = srcM ph) (hdst' : dst = slotM ph a.rev.succ)
    {sS sem : DmaSem sig} (hsS : SemLoc.dma sS = csem (some (.send, ph, a))) (hsem' : SemLoc.dma sem = csem (some (.recv, ph, a.rev)))
    {hsc : (show Memref sig (Dev.tc n : Thread nD τ).2.kind .vmem S2x512 .f32 from dst).view.ref.isScScratch = false}
    {hsrc : src.view.WordExact} {hdst : dst.view.WordExact}
    {hsem : DmaTarget.Typed .vmem (.dma sem) (.remote (Dev.tc n : Thread nD τ) dst (.dma sS) hsc)}
    {α : Type} {Q : α → sProp 𝕄} {kont : PUnit → Prog (TpuEff nD τ sig (Elt F) Λ₀ .tc) α} :
    iprop(records m ρ K ∗ oweSt (F := F) c (landP c ph a :: l) ∗ owns (c : Thread nD τ) (srcM ph) (lent a) (val m ρ ph c)
        ∗ slotAny (F := F) ph a.rev.succ (peer ph a c)
        ∗ dutyTok ER (cellG c (some (.send, ph, a))) 0 false ∗ dutyTok ER (cellG (peer ph a c) (some (.recv, ph, a.rev))) 0 false)
      ⊢ iprop((iprop(oweSt (F := F) c l ∗ cred (tallyAt (cellG c (some (.send, ph, a))) () (need (some (.send, ph, a))))) -∗ wpc c (kont ⟨⟩) Q)
          -∗ wpc c (.op (.enqueueDma src (.remote (Dev.tc n : Thread nD τ) dst (.dma sS) hsc) (.dma sem) hsrc hdst hsem) kont) Q) := by
  subst hn hsrc' hdst'
  unfold oweSt slotAny
  have howns : owns (c : Thread nD τ) (srcM ph) (lent a) (val m ρ ph c)
      ⊢ iprop(∃ f, ⌜(srcM ph).view.read (Elt F) f = val m ρ ph c⌝ ∗ ((srcM ph).view.loc (c : Thread nD τ) ↦[(srcM ph).view.set]{lent a} f) : sProp 𝕄) := by
    unfold owns; exact .rfl
  iintro ⟨#HR, ⟨%W, HO⟩, Hsrc, ⟨%fd, Hdst⟩, HtS, HtR⟩ Hk
  ihave Hsrc' := howns $$ Hsrc
  icases Hsrc' with ⟨%fs, %hfs, Hsrc⟩
  have e1 : ((c : Thread nD τ), SemLoc.dma sS) = cellG c (some (.send, ph, a)) := by rw [hsS]
  have e2 : ((peer ph a c : Thread nD τ), SemLoc.dma sem) = cellG (peer ph a c) (some (.recv, ph, a.rev)) := by rw [hsem']
  iapply (Rounds.wp_send_pointsTo 𝒱₀ ER (rd m ρ) (c : Thread nD τ) none (c' := (peer ph a c : Thread nD τ))
    (κ₁ := K (c, some (.send, ph, a))) (κ₂ := K (peer ph a c, some (.recv, ph, a.rev)))
    (r₁ := 0) (r₂ := 0) (d₁ := false) (d₂ := false) (fd := fd) (fs := fs) (q := lent a)
    (by rw [e1, duties_cell]; exact Finset.mem_singleton_self _) (by rw [e2, duties_cell]; exact Finset.mem_singleton_self _)
    () () N (by cases ph <;> rfl) (by rw [e1, amount_cell]; rfl) (by rw [e2, amount_cell]; rfl) (owe l)
    (O₀ := owe (landP c ph a :: l)) (by rw [e2]; rfl) (W := W)
    (by
      rw [e1, payload_cell, payOf_send]
      unfold owns
      iintro H; iexists fs
      isplitr; · ipureintro; exact hfs
      iexact H)
    (by
      rw [e2, payload_cell, payOf_recv, peer_rev, ← hfs]
      unfold owns
      iintro H; iexists ((slotM ph a.rev.succ).view.write (Elt F) fd ((srcM ph).view.read (Elt F) fs) Finset.univ)
      isplitr
      · ipureintro; exact View.read_write_univ _ _
      iexact H)) $$ [HO Hsrc Hdst HtS HtR]
  · rw [e1, e2]
    isplitr; · iapply (records_inv m ρ K c (some (.send, ph, a))); iexact HR
    isplitr; · iapply (records_inv m ρ K (peer ph a c) (some (.recv, ph, a.rev))); iexact HR
    isplitl [Hsrc]; · iexact Hsrc
    isplitl [Hdst]; · iexact Hdst
    isplitl [HO]; · iexact HO
    isplitl [HtS]; · iexact HtS
    isplitr; · iapply (records_reached m ρ K c (some (.send, ph, a))); iexact HR
    isplitl [HtR]; · iexact HtR
    iapply (records_reached m ρ K (peer ph a c) (some (.recv, ph, a.rev))); iexact HR
  rw [e1]
  iintro ⟨Hc, HO⟩
  iapply Hk
  isplitl [HO]; · iexists W; iexact HO
  iexact Hc

end Cert.Mesh

end
-- ==== Proof.Mesh.Slots.lean ====
/-
The landing slots as parts of their array, the shares lent of a source, and the loads of a slot.
-/
module

public import proofs.«01_k».proof.Proof.Mesh.Steps

@[expose] public section

noncomputable section

namespace Cert.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The slots partition their array -/

theorem slotR_disjoint {k k' : Fin 4} (h : k ≠ k') : Disjoint (slotR k).set (slotR k').set :=
  Rect.unit_disjoint 0 (by
    have : k.val ≠ k'.val := fun e => h (Fin.ext e)
    show k.val + 1 ≤ k'.val ∨ k'.val + 1 ≤ k.val
    omega)

theorem slotR_cover : (Finset.univ : Finset (Fin 4)).biUnion (fun k => (slotR k).set) = Finset.univ := by
  ext i
  simp only [Finset.mem_biUnion, Finset.mem_univ, true_and, iff_true]
  have h0 : (i 0).val < 4 := (i 0).isLt
  refine ⟨⟨(i 0).val, h0⟩, Rect.mem_set_unit.mpr fun a => ?_⟩
  fin_cases a
  · exact ⟨le_refl _, Nat.lt_succ_self _⟩
  · exact ⟨Nat.zero_le _, by have := (i 1).isLt; show _ < 0 + 2; simpa using this⟩
  · exact ⟨Nat.zero_le _, by have := (i 2).isLt; show _ < 0 + 512; simpa using this⟩

/-- A slot's elements in its array's buffer. -/
theorem slot_set (ph : Bool) (k : Fin 4) : (slotM ph k).view.set = (slotR k).set.map (commM ph).view.emb := by
  unfold slotM
  exact (View.set_reshape _ _).trans (View.set_slice _ _)

theorem slot_sets_disjoint (ph : Bool) {k k' : Fin 4} (h : k ≠ k') : Disjoint (slotM ph k).view.set (slotM ph k').view.set := by
  rw [slot_set, slot_set]; exact (Finset.disjoint_map _).mpr (slotR_disjoint h)

theorem comm_set (ph : Bool) : (commM ph).view.set = (Finset.univ : Finset (Fin 4)).biUnion fun k => (slotM ph k).view.set := by
  ext i; constructor
  · intro hi
    rw [View.set, Finset.mem_map] at hi
    obtain ⟨x, -, rfl⟩ := hi
    obtain ⟨k, -, hx⟩ := Finset.mem_biUnion.mp (slotR_cover.symm ▸ Finset.mem_univ x)
    exact Finset.mem_biUnion.mpr ⟨k, Finset.mem_univ _, by rw [slot_set]; exact Finset.mem_map_of_mem _ hx⟩
  · intro hi
    obtain ⟨k, -, hi⟩ := Finset.mem_biUnion.mp hi
    rw [slot_set] at hi
    exact Finset.map_subset_map.mpr (Finset.subset_univ _) hi

/-- The array of slots of a phase on device `c`, at some contents. -/
def commAny (ph : Bool) (c : Dev nD) : sProp 𝕄 :=
  iprop(∃ f, (commM ph).view.loc (c : Thread nD τ) ↦[(commM ph).view.set]{fullShare} f)

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep_fin3 (Φ : Fin 3 → sProp 𝕄) : bigSep Finset.univ Φ = iprop(Φ 0 ∗ Φ 1 ∗ Φ 2) :=
  bigSep_univ_eq_bigSepL [0, 1, 2] (by decide) (by decide) Φ
theorem bigSep_bool (Φ : Bool → sProp 𝕄) : bigSep Finset.univ Φ = iprop(Φ false ∗ Φ true) :=
  bigSep_univ_eq_bigSepL [false, true] (by decide) (by decide) Φ

/-- The array comes apart into its four slots; -/
theorem comm_split (ph : Bool) (c : Dev nD) :
    commAny (F := F) ph c ⊢ iprop(slotAny (F := F) ph 0 c ∗ slotAny (F := F) ph 1 c ∗ slotAny (F := F) ph 2 c ∗ slotAny (F := F) ph 3 c) := by
  have h1 (f : Buf (Elt F) ((commM ph).view.loc (c : Thread nD τ))) :
      ((commM ph).view.loc (c : Thread nD τ) ↦[(commM ph).view.set]{fullShare} f : sProp 𝕄)
        = bigSep Finset.univ fun k : Fin 4 => ((commM ph).view.loc (c : Thread nD τ) ↦[(slotM ph k).view.set]{fullShare} f) := by
    rw [comm_set]
    exact pointsTo_biUnion (ℓ := (commM ph).view.loc (c : Thread nD τ)) Finset.univ (fun k : Fin 4 => (slotM ph k).view.set)
      (fun k _ k' _ h => slot_sets_disjoint ph h)
  unfold commAny
  iintro ⟨%f, H⟩
  ihave H' := (Entails.of_eq ((h1 f).trans (bigSep_fin4 _))) $$ H
  icases H' with ⟨H0, H1, H2, H3⟩
  unfold slotAny
  isplitl [H0]; · iexists f; iexact H0
  isplitl [H1]; · iexists f; iexact H1
  isplitl [H2]; · iexists f; iexact H2
  iexists f; iexact H3

/-- and back together. -/
theorem comm_join (ph : Bool) (c : Dev nD) :
    iprop(slotAny (F := F) ph 0 c ∗ slotAny (F := F) ph 1 c ∗ slotAny (F := F) ph 2 c ∗ slotAny (F := F) ph 3 c) ⊢ commAny (F := F) ph c := by
  have h1 (fs : Fin 4 → Buf (Elt F) ((commM ph).view.loc (c : Thread nD τ))) :
      (bigSep Finset.univ fun k : Fin 4 => ((commM ph).view.loc (c : Thread nD τ) ↦[(slotM ph k).view.set]{fullShare} fs k))
        ⊢ (iprop(∃ g, ⌜∀ k ∈ (Finset.univ : Finset (Fin 4)), ∀ i ∈ (slotM ph k).view.set, g i = fs k i⌝
            ∗ (commM ph).view.loc (c : Thread nD τ) ↦[(commM ph).view.set]{fullShare} g) : sProp 𝕄) := by
    rw [comm_set]
    exact pointsTo_biUnion_join (ℓ := (commM ph).view.loc (c : Thread nD τ)) Finset.univ (fun k : Fin 4 => (slotM ph k).view.set) fs (fs 0)
      (fun k _ k' _ h => slot_sets_disjoint ph h)
  unfold slotAny commAny
  iintro ⟨⟨%f0, H0⟩, ⟨%f1, H1⟩, ⟨%f2, H2⟩, ⟨%f3, H3⟩⟩
  ihave H := (h1 ![f0, f1, f2, f3]) $$ [H0 H1 H2 H3]
  · rw [bigSep_fin4]
    isplitl [H0]; · iexact H0
    isplitl [H1]; · iexact H1
    isplitl [H2]; · iexact H2
    iexact H3
  icases H with ⟨%g, -, H⟩
  iexists g; iexact H

/-- A slot owned at any value is the slot at some contents. -/
theorem slotAny_of_owns (ph : Bool) (k : Fin 4) (c : Dev nD) (X : FVec F S2x512 .f32) :
    (owns (c : Thread nD τ) (slotM ph k) fullShare X : sProp 𝕄) ⊢ slotAny (F := F) ph k c := by
  unfold owns slotAny
  iintro ⟨%f, -, H⟩
  iexists f; iexact H

/-- A load of slot `k` through the array: what it reads, cast to the slot's shape, is the slot's value. -/
theorem step_load_slot (c : Dev nD) (ph : Bool) (k : Fin 4) (X : FVec F S2x512 .f32) {M : Memref sig .tc .vmem S4x2x512 .f32} (hM : M = commM ph)
    {r : LoadRect S4x2x512} (hr : r = (slotR k).toLoadRect)
    {hl : M.view.LoadsAt r} {α : Type} {Q : α → sProp 𝕄} {kont : (r.shape.Idx → Elt F .f32) → Prog (TpuEff nD τ sig (Elt F) Λ₀ .tc) α} :
    (owns (c : Thread nD τ) (slotM ph k) fullShare X : sProp 𝕄)
      ⊢ iprop((∀ v : S1x2x512.Idx → Elt F .f32, ⌜shapeCast S2x512 v shapeCasts_S1x2x512_S2x512 = X⌝ -∗ owns (c : Thread nD τ) (slotM ph k) fullShare X
            -∗ wpc c (kont (hr ▸ v)) Q)
          -∗ wpc c (.op (.load M r hl) kont) Q) := by
  subst hM hr
  have hin : (owns (c : Thread nD τ) (slotM ph k) fullShare X : sProp 𝕄)
      ⊢ iprop(∃ f, ⌜(slotM ph k).view.read (Elt F) f = X⌝ ∗ ((commM ph).view.loc (c : Thread nD τ) ↦[(slotM ph k).view.set]{fullShare} f)) := by
    unfold owns; exact .rfl
  have hout (f : Buf (Elt F) ((commM ph).view.loc (c : Thread nD τ))) (hf : (slotM ph k).view.read (Elt F) f = X) :
      ((commM ph).view.loc (c : Thread nD τ) ↦[(slotM ph k).view.set]{fullShare} f : sProp 𝕄) ⊢ owns (c : Thread nD τ) (slotM ph k) fullShare X := by
    rw [← hf]; exact owns_intro (c : Thread nD τ) (slotM ph k) fullShare f
  iintro H Hk
  ihave H' := hin $$ H
  icases H' with ⟨%f, %hf, H⟩
  iapply (wp_load 𝒱₀ (c : Thread nD τ) none Set.univ (m := commM ph) (r := (slotR k).toLoadRect) (S := (slotM ph k).view.set) (f := f)
    (by rw [slot_set]; exact subset_rfl)) $$ H
  iintro H
  iapply Hk $$ [] [H]
  · ipureintro; rw [← hf]; rfl
  · iapply (hout f hf); iexact H

/-! ## The shares of a source -/

/-- The share a device keeps of a source while transfers read it. -/
abbrev kept : PosShare TreeShare := fullShare.right.right

/-- A source held in full is the three lent shares and the kept one. -/
theorem src_shares (ph : Bool) (c : Dev nD) (X : FVec F S2x512 .f32) :
    (owns (c : Thread nD τ) (srcM ph) fullShare X : sProp 𝕄)
      ⊣⊢ iprop(owns (c : Thread nD τ) (srcM ph) (lent 0) X ∗ owns (c : Thread nD τ) (srcM ph) (lent 1) X
          ∗ owns (c : Thread nD τ) (srcM ph) (lent 2) X ∗ owns (c : Thread nD τ) (srcM ph) kept X) := by
  have key (b : Ref sig .tc) (Y : b.ty.Contents (Elt F)) :
      (((c : Thread nD τ).loc b) ↦{fullShare} Y : sProp 𝕄)
        ⊣⊢ iprop((((c : Thread nD τ).loc b) ↦{lent 0} Y) ∗ (((c : Thread nD τ).loc b) ↦{lent 1} Y)
          ∗ (((c : Thread nD τ).loc b) ↦{lent 2} Y) ∗ (((c : Thread nD τ).loc b) ↦{kept} Y)) := by
    have h1 := pointsTo_share (Val := Elt F) (Ix := Unit) (Name := ℕ) (U := UU) (Lvl := ℕ) (ℓ := (c : Thread nD τ).loc b) (I := Finset.univ) (f := Y)
      (PosShare.mem_left_op_right fullShare)
    have h2 := pointsTo_share (Val := Elt F) (Ix := Unit) (Name := ℕ) (U := UU) (Lvl := ℕ) (ℓ := (c : Thread nD τ).loc b) (I := Finset.univ) (f := Y)
      (PosShare.mem_left_op_right fullShare.left)
    have h3 := pointsTo_share (Val := Elt F) (Ix := Unit) (Name := ℕ) (U := UU) (Lvl := ℕ) (ℓ := (c : Thread nD τ).loc b) (I := Finset.univ) (f := Y)
      (PosShare.mem_left_op_right fullShare.right)
    refine ⟨?_, ?_⟩
    · iintro H
      ihave H := h1.1 $$ H
      icases H with ⟨Hl, Hr⟩
      ihave Hl := h2.1 $$ Hl
      ihave Hr := h3.1 $$ Hr
      icases Hl with ⟨H0, H1⟩
      icases Hr with ⟨H2, H3⟩
      isplitl [H0]; · iexact H0
      isplitl [H1]; · iexact H1
      isplitl [H2]; · iexact H2
      iexact H3
    · iintro ⟨H0, H1, H2, H3⟩
      iapply h1.2
      isplitl [H0 H1]
      · iapply h2.2
        isplitl [H0]; · iexact H0
        iexact H1
      · iapply h3.2
        isplitl [H2]; · iexact H2
        iexact H3
  cases ph with
  | false =>
    have e (q : PosShare TreeShare) : (owns (c : Thread nD τ) (srcM false) q X : sProp 𝕄) = ((c : Thread nD τ).loc cc0_scratch0) ↦{q} X :=
      owns_whole (Val := Elt F) (c : Thread nD τ) cc0_scratch0 q X
    rw [e, e, e, e, e]
    exact key cc0_scratch0 X
  | true =>
    have e (q : PosShare TreeShare) : (owns (c : Thread nD τ) (srcM true) q X : sProp 𝕄) = ((c : Thread nD τ).loc cc0_scratch1) ↦{q} X :=
      owns_whole (Val := Elt F) (c : Thread nD τ) cc0_scratch1 q X
    rw [e, e, e, e, e]
    exact key cc0_scratch1 X

end Cert.Mesh

end
-- ==== Proof.Mesh.Body.lean ====
/-
The body, executed once at a symbolic device: what it starts from, what it ends with, and one rule for each step.
-/
module

public import proofs.«01_k».proof.Proof.Mesh.Slots

@[expose] public section

noncomputable section

namespace Cert.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A device's linear resources for the exchange of a phase at distance `a + 1`: its positions and credit for the waits,
    and the tokens of the payments it makes. -/
def xfer (c : Dev nD) (ph : Bool) (a : Fin 3) : sProp 𝕄 :=
  iprop(toWait (F := F) c (some (.ready, ph, a)) ∗ toWait (F := F) c (some (.recv, ph, a)) ∗ atPos ER (cellG c (some (.send, ph, a))) 0 ∅ 0
    ∗ dutyTok ER (cellG (peer ph a c) (some (.ready, ph, a.rev))) 0 false
    ∗ dutyTok ER (cellG c (some (.send, ph, a))) 0 false
    ∗ dutyTok ER (cellG (peer ph a c) (some (.recv, ph, a.rev))) 0 false)

/-- Its resources for the barrier. -/
def barRes (c : Dev nD) : sProp 𝕄 :=
  iprop(toWait (F := F) c none ∗ dutyTok ER (cellG (peer false 0 c) none) 0 false ∗ dutyTok ER (cellG (peer false 2 c) none) 0 true)

/-- What the exchange at a distance leaves: its three semaphores at zero. -/
def xferDone (c : Dev nD) (ph : Bool) (a : Fin 3) : sProp 𝕄 :=
  iprop(semVal (cellG c (some (.ready, ph, a))) 0 ∗ semVal (cellG c (some (.send, ph, a))) 0 ∗ semVal (cellG c (some (.recv, ph, a))) 0)

/-- A whole buffer of device `c` at contents `X`. -/
abbrev bufAt (c : Dev nD) (b : Ref sig .tc) (X : b.ty.Contents (Elt F)) : sProp 𝕄 := ((c : Thread nD τ).loc b) ↦{fullShare} X

/-- What the body starts from: the staged blocks, the result's staging buffer, the scratch buffers. -/
def bufsPre (c : Dev nD) : sProp 𝕄 :=
  iprop(bufAt c cc0_stg0_0 (xstg m ρ c) ∗ bufAt c cc0_stg1_0 (ystg m ρ c) ∗ (∃ f, bufAt (F := F) c cc0_stg2_0 f)
    ∗ (∃ f, bufAt (F := F) c cc0_scratch0 f) ∗ (∃ f, bufAt (F := F) c cc0_scratch1 f) ∗ commAny (F := F) false c ∗ commAny (F := F) true c)
/-- What it leaves them at: the result in its staging buffer. -/
def bufsPost (c : Dev nD) : sProp 𝕄 :=
  iprop(bufAt c cc0_stg0_0 (xstg m ρ c) ∗ bufAt c cc0_stg1_0 (ystg m ρ c) ∗ bufAt c cc0_stg2_0 (outAt m ρ c)
    ∗ (∃ f, bufAt (F := F) c cc0_scratch0 f) ∗ (∃ f, bufAt (F := F) c cc0_scratch1 f) ∗ commAny (F := F) false c ∗ commAny (F := F) true c)

abbrev r0 : Rect S2x512 := Rect.unit (s := S2x512) ![0, 0] S2x512.size inb_S2x512_S2x512_0_0
theorem hz : (![0, 0] : Fin 2 → Nat) = fun _ => 0 := funext fun a => by fin_cases a <;> rfl

/-- The body's own arithmetic, in the words of the contents: the plane's sum, and the result. -/
theorem pay6_eq (c : Dev nD) (v1 v2 v3 : Vec F S1x2x512 .f32)
    (h1 : shapeCast S2x512 v1 shapeCasts_S1x2x512_S2x512 = val m ρ false (peer false 0 c))
    (h2 : shapeCast S2x512 v2 shapeCasts_S1x2x512_S2x512 = val m ρ false (peer false 1 c))
    (h3 : shapeCast S2x512 v3 shapeCasts_S1x2x512_S2x512 = val m ρ false (peer false 2 c)) :
    k0_pay6 (val m ρ false c) v1 v2 v3 = val m ρ true c := by
  unfold k0_pay6 k0_pay5
  dsimp only
  rw [h1, h2, h3]
  exact shapeCast_self _ _
theorem pay5_eq (c : Dev nD) (v1 v2 v3 : Vec F S1x2x512 .f32)
    (h1 : shapeCast S2x512 v1 shapeCasts_S1x2x512_S2x512 = val m ρ false (peer false 0 c))
    (h2 : shapeCast S2x512 v2 shapeCasts_S1x2x512_S2x512 = val m ρ false (peer false 1 c))
    (h3 : shapeCast S2x512 v3 shapeCasts_S1x2x512_S2x512 = val m ρ false (peer false 2 c)) :
    k0_pay5 (val m ρ false c) v1 v2 v3 = val m ρ true c := by
  unfold k0_pay5
  dsimp only
  rw [h1, h2, h3]; rfl
theorem pay7_eq (c : Dev nD) (v1 v2 v3 : Vec F S1x2x512 .f32)
    (h1 : shapeCast S2x512 v1 shapeCasts_S1x2x512_S2x512 = val m ρ true (peer true 0 c))
    (h2 : shapeCast S2x512 v2 shapeCasts_S1x2x512_S2x512 = val m ρ true (peer true 1 c))
    (h3 : shapeCast S2x512 v3 shapeCasts_S1x2x512_S2x512 = val m ρ true (peer true 2 c)) :
    k0_pay7 (val m ρ true c) v1 v2 v3 = outAt m ρ c := by
  unfold k0_pay7
  dsimp only
  rw [h1, h2, h3]; rfl

/-- The first source whole is the three shares the transfers lend and the one kept, which is read from; -/
theorem src_lend0 (c : Dev nD) (X : FVec F S2x512 .f32) :
    (((c : Thread nD τ).loc cc0_scratch0 ↦{fullShare} X) : sProp 𝕄) ⊣⊢ iprop(owns (c : Thread nD τ) (srcM false) (lent 0) X
      ∗ owns (c : Thread nD τ) (srcM false) (lent 1) X ∗ owns (c : Thread nD τ) (srcM false) (lent 2) X ∗ ((c : Thread nD τ).loc cc0_scratch0 ↦{kept} X)) := by
  have h := src_shares (F := F) false c X
  rw [show (owns (c : Thread nD τ) (srcM false) fullShare X : sProp 𝕄) = _ from owns_whole (Val := Elt F) (c : Thread nD τ) cc0_scratch0 fullShare X,
    show (owns (c : Thread nD τ) (srcM false) kept X : sProp 𝕄) = _ from owns_whole (Val := Elt F) (c : Thread nD τ) cc0_scratch0 kept X] at h
  exact h
/-- and the second source likewise. -/
theorem src_lend1 (c : Dev nD) (X : FVec F S2x512 .f32) :
    (((c : Thread nD τ).loc cc0_scratch1 ↦{fullShare} X) : sProp 𝕄) ⊣⊢ iprop(owns (c : Thread nD τ) (srcM true) (lent 0) X
      ∗ owns (c : Thread nD τ) (srcM true) (lent 1) X ∗ owns (c : Thread nD τ) (srcM true) (lent 2) X ∗ ((c : Thread nD τ).loc cc0_scratch1 ↦{kept} X)) := by
  have h := src_shares (F := F) true c X
  rw [show (owns (c : Thread nD τ) (srcM true) fullShare X : sProp 𝕄) = _ from owns_whole (Val := Elt F) (c : Thread nD τ) cc0_scratch1 fullShare X,
    show (owns (c : Thread nD τ) (srcM true) kept X : sProp 𝕄) = _ from owns_whole (Val := Elt F) (c : Thread nD τ) cc0_scratch1 kept X] at h
  exact h

/-- What a receive hands over, by the slot's number. -/
theorem recv_pay (ph : Bool) (j : Fin 3) (k : Fin 4) (hk : j.succ = k) (c : Dev nD) :
    payOf m ρ (some (.recv, ph, j)) c ⊢ owns (c : Thread nD τ) (slotM ph k) fullShare (val m ρ ph (peer ph j c)) := by
  subst hk; exact Entails.of_eq (payOf_recv m ρ ph j c)

variable (K : Dev nD × Cell → ℕ)

set_option maxHeartbeats 4000000 in
set_option maxRecDepth 8000 in
/-- The body on a device: from the invariants, what it owes and its resources, to its result, nothing owed and every
    semaphore of the protocol at zero. -/
theorem sound_body (c : Dev nD) (Kt : PUnit → sProp 𝕄) :
    iprop(records m ρ K ∗ levAts L lv ∗ oweSt (F := F) c (owed c) ∗ barRes (F := F) c
        ∗ (xfer (F := F) c false 0 ∗ xfer (F := F) c false 1 ∗ xfer (F := F) c false 2)
        ∗ (xfer (F := F) c true 0 ∗ xfer (F := F) c true 1 ∗ xfer (F := F) c true 2)
        ∗ bufsPre m ρ c
        ∗ (iprop(oweSt (F := F) c [] ∗ semVal (cellG c none) 0
            ∗ (xferDone (F := F) c false 0 ∗ xferDone (F := F) c false 1 ∗ xferDone (F := F) c false 2)
            ∗ (xferDone (F := F) c true 0 ∗ xferDone (F := F) c true 1 ∗ xferDone (F := F) c true 2)
            ∗ bufsPost m ρ c) -∗ Kt ⟨⟩))
      ⊢ wpc c (cc0_body (F := F) (Memref.whole cc0_stg0_0) (Memref.isWhole_whole _) (Memref.whole cc0_stg1_0) (Memref.isWhole_whole _)
          (Memref.whole cc0_stg2_0) (Memref.isWhole_whole _) (Memref.whole cc0_scratch0) (Memref.isWhole_whole _) (Memref.whole cc0_scratch1) (Memref.isWhole_whole _)
          (Memref.whole cc0_scratch2) (Memref.isWhole_whole _) (Memref.whole cc0_scratch3) (Memref.isWhole_whole _)
          cc0_scratch4 cc0_scratch5 cc0_scratch6 cc0_scratch7 cc0_scratch8 cc0_scratch9) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton, k0_part13_eq_skeleton]
  unfold k0_part1_skel k0_part2_skel k0_part3_skel k0_part4_skel k0_part5_skel k0_part6_skel k0_part7_skel k0_part8_skel k0_part9_skel k0_part10_skel
    k0_part11_skel k0_part12_skel k0_part13_skel
  simp only [semSignalWord, semWaitWord, Prog.lift, Prog.bind_op, Prog.bind_ret, Prog.pure_eq_ret, wp_deviceId]
  unfold barRes xfer bufsPre
  iintro ⟨#HR, #Hlev, HO, ⟨Wb, Tb0, Tb2⟩, ⟨⟨Wrf0, Wvf0, Asf0, Trf0, Tsf0, Tvf0⟩, ⟨Wrf1, Wvf1, Asf1, Trf1, Tsf1, Tvf1⟩, ⟨Wrf2, Wvf2, Asf2, Trf2, Tsf2, Tvf2⟩⟩, ⟨⟨Wrt0, Wvt0, Ast0, Trt0, Tst0, Tvt0⟩, ⟨Wrt1, Wvt1, Ast1, Trt1, Tst1, Tvt1⟩, ⟨Wrt2, Wvt2, Ast2, Trt2, Tst2, Tvt2⟩⟩,
    ⟨Hx, Hy, ⟨%o0, Ho⟩, ⟨%g0, Hs⟩, ⟨%g1, Hp⟩, Cf, Ct⟩, Hk⟩
  unfold owed
  ihave Cf := (comm_split (F := F) false c) $$ Cf
  icases Cf with ⟨Sf0, Sf1, Sf2, Sf3⟩
  ihave Ct := (comm_split (F := F) true c) $$ Ct
  icases Ct with ⟨St0, St1, St2, St3⟩
  -- the announcements: every landing slot to the peer that fills it
  iapply (step_signal m ρ K c (peer false 0 c) (some (.ready, false, Fin.rev 0)) false [annP c true 0, annP c false 1, annP c true 1, annP c false 2, annP c true 2, barP c 0, barP c 2, landP c false 0, landP c false 1, landP c false 2, landP c true 0, landP c true 1, landP c true 2] (dev1_eq c) rfl
      (Finset.mem_singleton_self _) rfl (u := 1) rfl) $$ [HO Trf0 Sf1]
  · isplitr; · iexact HR
    isplitl [HO]; · iexact HO
    isplitl [Trf0]; · iexact Trf0
    rw [payOf_ready, peer_rev, Fin.rev_rev]; iexact Sf1
  iintro HO
  iapply (step_signal m ρ K c (peer true 0 c) (some (.ready, true, Fin.rev 0)) false [annP c false 1, annP c true 1, annP c false 2, annP c true 2, barP c 0, barP c 2, landP c false 0, landP c false 1, landP c false 2, landP c true 0, landP c true 1, landP c true 2] (dev2_eq c) rfl
      (Finset.mem_singleton_self _) rfl (u := 1) rfl) $$ [HO Trt0 St1]
  · isplitr; · iexact HR
    isplitl [HO]; · iexact HO
    isplitl [Trt0]; · iexact Trt0
    rw [payOf_ready, peer_rev, Fin.rev_rev]; iexact St1
  iintro HO
  iapply (step_signal m ρ K c (peer false 1 c) (some (.ready, false, Fin.rev 1)) false [annP c true 1, annP c false 2, annP c true 2, barP c 0, barP c 2, landP c false 0, landP c false 1, landP c false 2, landP c true 0, landP c true 1, landP c true 2] (dev3_eq c) rfl
      (Finset.mem_singleton_self _) rfl (u := 1) rfl) $$ [HO Trf1 Sf2]
  · isplitr; · iexact HR
    isplitl [HO]; · iexact HO
    isplitl [Trf1]; · iexact Trf1
    rw [payOf_ready, peer_rev, Fin.rev_rev]; iexact Sf2
  iintro HO
  iapply (step_signal m ρ K c (peer true 1 c) (some (.ready, true, Fin.rev 1)) false [annP c false 2, annP c true 2, barP c 0, barP c 2, landP c false 0, landP c false 1, landP c false 2, landP c true 0, landP c true 1, landP c true 2] (dev4_eq c) rfl
      (Finset.mem_singleton_self _) rfl (u := 1) rfl) $$ [HO Trt1 St2]
  · isplitr; · iexact HR
    isplitl [HO]; · iexact HO
    isplitl [Trt1]; · iexact Trt1
    rw [payOf_ready, peer_rev, Fin.rev_rev]; iexact St2
  iintro HO
  iapply (step_signal m ρ K c (peer false 2 c) (some (.ready, false, Fin.rev 2)) false [annP c true 2, barP c 0, barP c 2, landP c false 0, landP c false 1, landP c false 2, landP c true 0, landP c true 1, landP c true 2] (dev5_eq c) rfl
      (Finset.mem_singleton_self _) rfl (u := 1) rfl) $$ [HO Trf2 Sf3]
  · isplitr; · iexact HR
    isplitl [HO]; · iexact HO
    isplitl [Trf2]; · iexact Trf2
    rw [payOf_ready, peer_rev, Fin.rev_rev]; iexact Sf3
  iintro HO
  iapply (step_signal m ρ K c (peer true 2 c) (some (.ready, true, Fin.rev 2)) false [barP c 0, barP c 2, landP c false 0, landP c false 1, landP c false 2, landP c true 0, landP c true 1, landP c true 2] (dev6_eq c) rfl
      (Finset.mem_singleton_self _) rfl (u := 1) rfl) $$ [HO Trt2 St3]
  · isplitr; · iexact HR
    isplitl [HO]; · iexact HO
    isplitl [Trt2]; · iexact Trt2
    rw [payOf_ready, peer_rev, Fin.rev_rev]; iexact St3
  iintro HO
  -- the barrier's two signals
  iapply (step_signal m ρ K c (peer false 0 c) none false [barP c 2, landP c false 0, landP c false 1, landP c false 2, landP c true 0, landP c true 1, landP c true 2] (dev7_eq c) rfl
      (Finset.mem_univ _) rfl (u := 1) rfl) $$ [HO Tb0]
  · isplitr; · iexact HR
    isplitl [HO]; · iexact HO
    isplitl [Tb0]; · iexact Tb0
    unfold payOf; iempintro
  iintro HO
  iapply (step_signal m ρ K c (peer false 2 c) none true [landP c false 0, landP c false 1, landP c false 2, landP c true 0, landP c true 1, landP c true 2] (dev8_eq c) rfl
      (Finset.mem_univ _) rfl (u := 1) rfl) $$ [HO Tb2]
  · isplitr; · iexact HR
    isplitl [HO]; · iexact HO
    isplitl [Tb2]; · iexact Tb2
    unfold payOf; iempintro
  iintro HO
  -- the staged blocks, and the device's own partial result into the first source
  iapply (wp_load 𝒱₀ (c : Thread nD τ) none Set.univ (m := (Memref.whole cc0_stg0_0 : Memref sig .tc .vmem S512x512 .bf16)) (Finset.subset_univ _)) $$ Hx; iintro Hx
  rw [show (Memref.whole cc0_stg0_0 : Memref sig .tc .vmem S512x512 .bf16).view.readAt (Elt F) (Rect.unit (s := S512x512) ![0, 0] S512x512.size inb_S512x512_S512x512_0_0).toLoadRect (xstg m ρ c) = xstg m ρ c
    from Memref.readAt_unit_zero (Elt F) cc0_stg0_0 hz _ _]
  iapply (wp_load 𝒱₀ (c : Thread nD τ) none Set.univ (m := (Memref.whole cc0_stg1_0 : Memref sig .tc .vmem S512x512 .bf16)) (Finset.subset_univ _)) $$ Hy; iintro Hy
  rw [show (Memref.whole cc0_stg1_0 : Memref sig .tc .vmem S512x512 .bf16).view.readAt (Elt F) (Rect.unit (s := S512x512) ![0, 0] S512x512.size inb_S512x512_S512x512_0_0).toLoadRect (ystg m ρ c) = ystg m ρ c
    from Memref.readAt_unit_zero (Elt F) cc0_stg1_0 hz _ _]
  iapply (wp_load 𝒱₀ (c : Thread nD τ) none Set.univ (m := (Memref.whole cc0_scratch0 : Memref sig .tc .vmem S2x512 .f32)) (Finset.subset_univ _)) $$ Hs; iintro Hs
  iapply (wp_store 𝒱₀ (c : Thread nD τ) none Set.univ (m := (Memref.whole cc0_scratch0 : Memref sig .tc .vmem S2x512 .f32)) (r := r0) (Mk := Finset.univ) (Finset.subset_univ _)) $$ Hs; iintro Hs
  rw [show ((Memref.whole cc0_scratch0 : Memref sig .tc .vmem S2x512 .f32).access r0 : View sig .tc _ _ _).write (Elt F) g0
      (k0_pay4 (k0_pay1 (ystg m ρ c)) (k0_pay2 (xstg m ρ c)) (k0_pay3 (xstg m ρ c))) Finset.univ = val m ρ false c
    from Memref.write_access_unit_zero_univ (Elt F) cc0_scratch0 hz _ _ _]
  ihave Hs := (src_lend0 c (val m ρ false c)).1 $$ Hs
  icases Hs with ⟨Qf0, Qf1, Qf2, Qf3⟩
  -- the barrier
  iapply (step_semWait m ρ K c none [landP c false 0, landP c false 1, landP c false 2, landP c true 0, landP c true 1, landP c true 2] rfl rfl (u := 2) rfl) $$ [HO Wb]
  · isplitr; · iexact HR
    isplitr; · iexact Hlev
    isplitl [HO]; · iexact HO
    iexact Wb
  iintro ⟨HO, Zb, -⟩
  -- the exchange within the plane
  iapply (step_semWait m ρ K c (some (.ready, false, 0)) [landP c false 0, landP c false 1, landP c false 2, landP c true 0, landP c true 1, landP c true 2] rfl rfl (u := 1) rfl) $$ [HO Wrf0]
  · isplitr; · iexact HR
    isplitr; · iexact Hlev
    isplitl [HO]; · iexact HO
    iexact Wrf0
  iintro ⟨HO, Zrf0, Pf0⟩
  iapply (step_send m ρ K c false 0 [landP c false 1, landP c false 2, landP c true 0, landP c true 1, landP c true 2] (dev9_eq c) rfl rfl rfl rfl) $$ [HO Qf0 Pf0 Tsf0 Tvf0]
  · isplitr; · iexact HR
    isplitl [HO]; · iexact HO
    isplitl [Qf0]; · iexact Qf0
    isplitl [Pf0]; · iapply (Entails.of_eq (payOf_ready m ρ false 0 c)); iexact Pf0
    isplitl [Tsf0] <;> iassumption
  iintro ⟨HO, Csf0⟩
  iapply (step_semWait m ρ K c (some (.ready, false, 1)) [landP c false 1, landP c false 2, landP c true 0, landP c true 1, landP c true 2] rfl rfl (u := 1) rfl) $$ [HO Wrf1]
  · isplitr; · iexact HR
    isplitr; · iexact Hlev
    isplitl [HO]; · iexact HO
    iexact Wrf1
  iintro ⟨HO, Zrf1, Pf1⟩
  iapply (step_send m ρ K c false 1 [landP c false 2, landP c true 0, landP c true 1, landP c true 2] (dev10_eq c) rfl rfl rfl rfl) $$ [HO Qf1 Pf1 Tsf1 Tvf1]
  · isplitr; · iexact HR
    isplitl [HO]; · iexact HO
    isplitl [Qf1]; · iexact Qf1
    isplitl [Pf1]; · iapply (Entails.of_eq (payOf_ready m ρ false 1 c)); iexact Pf1
    isplitl [Tsf1] <;> iassumption
  iintro ⟨HO, Csf1⟩
  iapply (step_semWait m ρ K c (some (.ready, false, 2)) [landP c false 2, landP c true 0, landP c true 1, landP c true 2] rfl rfl (u := 1) rfl) $$ [HO Wrf2]
  · isplitr; · iexact HR
    isplitr; · iexact Hlev
    isplitl [HO]; · iexact HO
    iexact Wrf2
  iintro ⟨HO, Zrf2, Pf2⟩
  iapply (step_send m ρ K c false 2 [landP c true 0, landP c true 1, landP c true 2] (dev11_eq c) rfl rfl rfl rfl) $$ [HO Qf2 Pf2 Tsf2 Tvf2]
  · isplitr; · iexact HR
    isplitl [HO]; · iexact HO
    isplitl [Qf2]; · iexact Qf2
    isplitl [Pf2]; · iapply (Entails.of_eq (payOf_ready m ρ false 2 c)); iexact Pf2
    isplitl [Tsf2] <;> iassumption
  iintro ⟨HO, Csf2⟩
  iapply (step_dmaWait m ρ K c (some (.recv, false, 0)) [landP c true 0, landP c true 1, landP c true 2] rfl rfl (dst := slotM false 1) rfl) $$ [HO Wvf0]
  · isplitr; · iexact HR
    isplitr; · iexact Hlev
    isplitl [HO]; · iexact HO
    iexact Wvf0
  iintro ⟨HO, Zvf0, Vf0⟩
  iapply (step_dmaWait m ρ K c (some (.recv, false, 2)) [landP c true 0, landP c true 1, landP c true 2] rfl rfl (dst := slotM false 3) rfl) $$ [HO Wvf2]
  · isplitr; · iexact HR
    isplitr; · iexact Hlev
    isplitl [HO]; · iexact HO
    iexact Wvf2
  iintro ⟨HO, Zvf2, Vf2⟩
  iapply (step_dmaWait m ρ K c (some (.recv, false, 1)) [landP c true 0, landP c true 1, landP c true 2] rfl rfl (dst := slotM false 2) rfl) $$ [HO Wvf1]
  · isplitr; · iexact HR
    isplitr; · iexact Hlev
    isplitl [HO]; · iexact HO
    iexact Wvf1
  iintro ⟨HO, Zvf1, Vf1⟩
  -- the plane's sum into the second source
  iapply (wp_load 𝒱₀ (c : Thread nD τ) none Set.univ (m := (Memref.whole cc0_scratch0 : Memref sig .tc .vmem S2x512 .f32)) (Finset.subset_univ _)) $$ Qf3; iintro Qf3
  rw [show (Memref.whole cc0_scratch0 : Memref sig .tc .vmem S2x512 .f32).view.readAt (Elt F) r0.toLoadRect (val m ρ false c) = val m ρ false c
    from Memref.readAt_unit_zero (Elt F) cc0_scratch0 hz _ _]
  ihave Vf0 := (recv_pay m ρ false 0 1 rfl c) $$ Vf0
  iapply (step_load_slot c false 1 (val m ρ false (peer false 0 c)) rfl rfl) $$ Vf0
  iintro %vf0 %hf0 Vf0
  ihave Vf1 := (recv_pay m ρ false 1 2 rfl c) $$ Vf1
  iapply (step_load_slot c false 2 (val m ρ false (peer false 1 c)) rfl rfl) $$ Vf1
  iintro %vf1 %hf1 Vf1
  ihave Vf2 := (recv_pay m ρ false 2 3 rfl c) $$ Vf2
  iapply (step_load_slot c false 3 (val m ρ false (peer false 2 c)) rfl rfl) $$ Vf2
  iintro %vf2 %hf2 Vf2
  iapply (wp_load 𝒱₀ (c : Thread nD τ) none Set.univ (m := (Memref.whole cc0_scratch1 : Memref sig .tc .vmem S2x512 .f32)) (Finset.subset_univ _)) $$ Hp; iintro Hp
  iapply (wp_store 𝒱₀ (c : Thread nD τ) none Set.univ (m := (Memref.whole cc0_scratch1 : Memref sig .tc .vmem S2x512 .f32)) (r := r0) (Mk := Finset.univ) (Finset.subset_univ _)) $$ Hp; iintro Hp
  rw [show ((Memref.whole cc0_scratch1 : Memref sig .tc .vmem S2x512 .f32).access r0 : View sig .tc _ _ _).write (Elt F) g1
      (k0_pay6 (val m ρ false c) vf0 vf1 vf2) Finset.univ = val m ρ true c
    from (Memref.write_access_unit_zero_univ (Elt F) cc0_scratch1 hz _ _ _).trans (pay6_eq m ρ c vf0 vf1 vf2 hf0 hf1 hf2)]
  rw [pay5_eq m ρ c vf0 vf1 vf2 hf0 hf1 hf2]
  ihave Hp := (src_lend1 c (val m ρ true c)).1 $$ Hp
  icases Hp with ⟨Qt0, Qt1, Qt2, Qt3⟩
  -- the exchange along the column
  iapply (step_semWait m ρ K c (some (.ready, true, 0)) [landP c true 0, landP c true 1, landP c true 2] rfl rfl (u := 1) rfl) $$ [HO Wrt0]
  · isplitr; · iexact HR
    isplitr; · iexact Hlev
    isplitl [HO]; · iexact HO
    iexact Wrt0
  iintro ⟨HO, Zrt0, Pt0⟩
  iapply (step_send m ρ K c true 0 [landP c true 1, landP c true 2] (dev12_eq c) rfl rfl rfl rfl) $$ [HO Qt0 Pt0 Tst0 Tvt0]
  · isplitr; · iexact HR
    isplitl [HO]; · iexact HO
    isplitl [Qt0]; · iexact Qt0
    isplitl [Pt0]; · iapply (Entails.of_eq (payOf_ready m ρ true 0 c)); iexact Pt0
    isplitl [Tst0] <;> iassumption
  iintro ⟨HO, Cst0⟩
  iapply (step_semWait m ρ K c (some (.ready, true, 1)) [landP c true 1, landP c true 2] rfl rfl (u := 1) rfl) $$ [HO Wrt1]
  · isplitr; · iexact HR
    isplitr; · iexact Hlev
    isplitl [HO]; · iexact HO
    iexact Wrt1
  iintro ⟨HO, Zrt1, Pt1⟩
  iapply (step_send m ρ K c true 1 [landP c true 2] (dev13_eq c) rfl rfl rfl rfl) $$ [HO Qt1 Pt1 Tst1 Tvt1]
  · isplitr; · iexact HR
    isplitl [HO]; · iexact HO
    isplitl [Qt1]; · iexact Qt1
    isplitl [Pt1]; · iapply (Entails.of_eq (payOf_ready m ρ true 1 c)); iexact Pt1
    isplitl [Tst1] <;> iassumption
  iintro ⟨HO, Cst1⟩
  iapply (step_semWait m ρ K c (some (.ready, true, 2)) [landP c true 2] rfl rfl (u := 1) rfl) $$ [HO Wrt2]
  · isplitr; · iexact HR
    isplitr; · iexact Hlev
    isplitl [HO]; · iexact HO
    iexact Wrt2
  iintro ⟨HO, Zrt2, Pt2⟩
  iapply (step_send m ρ K c true 2 [] (dev14_eq c) rfl rfl rfl rfl) $$ [HO Qt2 Pt2 Tst2 Tvt2]
  · isplitr; · iexact HR
    isplitl [HO]; · iexact HO
    isplitl [Qt2]; · iexact Qt2
    isplitl [Pt2]; · iapply (Entails.of_eq (payOf_ready m ρ true 2 c)); iexact Pt2
    isplitl [Tst2] <;> iassumption
  iintro ⟨HO, Cst2⟩
  iapply (step_dmaWait m ρ K c (some (.recv, true, 0)) [] rfl rfl (dst := slotM true 1) rfl) $$ [HO Wvt0]
  · isplitr; · iexact HR
    isplitr; · iexact Hlev
    isplitl [HO]; · iexact HO
    iexact Wvt0
  iintro ⟨HO, Zvt0, Vt0⟩
  iapply (step_dmaWait m ρ K c (some (.recv, true, 1)) [] rfl rfl (dst := slotM true 2) rfl) $$ [HO Wvt1]
  · isplitr; · iexact HR
    isplitr; · iexact Hlev
    isplitl [HO]; · iexact HO
    iexact Wvt1
  iintro ⟨HO, Zvt1, Vt1⟩
  iapply (step_dmaWait m ρ K c (some (.recv, true, 2)) [] rfl rfl (dst := slotM true 3) rfl) $$ [HO Wvt2]
  · isplitr; · iexact HR
    isplitr; · iexact Hlev
    isplitl [HO]; · iexact HO
    iexact Wvt2
  iintro ⟨HO, Zvt2, Vt2⟩
  -- the result
  ihave Vt0 := (recv_pay m ρ true 0 1 rfl c) $$ Vt0
  iapply (step_load_slot c true 1 (val m ρ true (peer true 0 c)) rfl rfl) $$ Vt0
  iintro %vt0 %ht0 Vt0
  ihave Vt1 := (recv_pay m ρ true 1 2 rfl c) $$ Vt1
  iapply (step_load_slot c true 2 (val m ρ true (peer true 1 c)) rfl rfl) $$ Vt1
  iintro %vt1 %ht1 Vt1
  ihave Vt2 := (recv_pay m ρ true 2 3 rfl c) $$ Vt2
  iapply (step_load_slot c true 3 (val m ρ true (peer true 2 c)) rfl rfl) $$ Vt2
  iintro %vt2 %ht2 Vt2
  iapply (wp_load 𝒱₀ (c : Thread nD τ) none Set.univ (m := (Memref.whole cc0_stg2_0 : Memref sig .tc .vmem S2x512 .f32)) (Finset.subset_univ _)) $$ Ho; iintro Ho
  iapply (wp_store 𝒱₀ (c : Thread nD τ) none Set.univ (m := (Memref.whole cc0_stg2_0 : Memref sig .tc .vmem S2x512 .f32)) (r := r0) (Mk := Finset.univ) (Finset.subset_univ _)) $$ Ho; iintro Ho
  rw [show ((Memref.whole cc0_stg2_0 : Memref sig .tc .vmem S2x512 .f32).access r0 : View sig .tc _ _ _).write (Elt F) o0
      (k0_pay7 (val m ρ true c) vt0 vt1 vt2) Finset.univ = outAt m ρ c
    from (Memref.write_access_unit_zero_univ (Elt F) cc0_stg2_0 hz _ _ _).trans (pay7_eq m ρ c vt0 vt1 vt2 ht0 ht1 ht2)]
  -- every transfer read out: the shares of the sources back
  iapply (step_dmaWait m ρ K c (some (.send, false, 0)) [] rfl rfl (dst := srcM false) rfl) $$ [HO Asf0 Csf0]
  · isplitr; · iexact HR
    isplitr; · iexact Hlev
    isplitl [HO]; · iexact HO
    unfold toWait; isplitl [Asf0] <;> iassumption
  iintro ⟨HO, Zsf0, Qf0⟩
  ihave Qf0 := (Entails.of_eq (payOf_send m ρ false 0 c)) $$ Qf0
  iapply (step_dmaWait m ρ K c (some (.send, true, 0)) [] rfl rfl (dst := srcM true) rfl) $$ [HO Ast0 Cst0]
  · isplitr; · iexact HR
    isplitr; · iexact Hlev
    isplitl [HO]; · iexact HO
    unfold toWait; isplitl [Ast0] <;> iassumption
  iintro ⟨HO, Zst0, Qt0⟩
  ihave Qt0 := (Entails.of_eq (payOf_send m ρ true 0 c)) $$ Qt0
  iapply (step_dmaWait m ρ K c (some (.send, false, 1)) [] rfl rfl (dst := srcM false) rfl) $$ [HO Asf1 Csf1]
  · isplitr; · iexact HR
    isplitr; · iexact Hlev
    isplitl [HO]; · iexact HO
    unfold toWait; isplitl [Asf1] <;> iassumption
  iintro ⟨HO, Zsf1, Qf1⟩
  ihave Qf1 := (Entails.of_eq (payOf_send m ρ false 1 c)) $$ Qf1
  iapply (step_dmaWait m ρ K c (some (.send, true, 1)) [] rfl rfl (dst := srcM true) rfl) $$ [HO Ast1 Cst1]
  · isplitr; · iexact HR
    isplitr; · iexact Hlev
    isplitl [HO]; · iexact HO
    unfold toWait; isplitl [Ast1] <;> iassumption
  iintro ⟨HO, Zst1, Qt1⟩
  ihave Qt1 := (Entails.of_eq (payOf_send m ρ true 1 c)) $$ Qt1
  iapply (step_dmaWait m ρ K c (some (.send, false, 2)) [] rfl rfl (dst := srcM false) rfl) $$ [HO Asf2 Csf2]
  · isplitr; · iexact HR
    isplitr; · iexact Hlev
    isplitl [HO]; · iexact HO
    unfold toWait; isplitl [Asf2] <;> iassumption
  iintro ⟨HO, Zsf2, Qf2⟩
  ihave Qf2 := (Entails.of_eq (payOf_send m ρ false 2 c)) $$ Qf2
  iapply (step_dmaWait m ρ K c (some (.send, true, 2)) [] rfl rfl (dst := srcM true) rfl) $$ [HO Ast2 Cst2]
  · isplitr; · iexact HR
    isplitr; · iexact Hlev
    isplitl [HO]; · iexact HO
    unfold toWait; isplitl [Ast2] <;> iassumption
  iintro ⟨HO, Zst2, Qt2⟩
  ihave Qt2 := (Entails.of_eq (payOf_send m ρ true 2 c)) $$ Qt2
  unfold wpc; rw [wp_ret]; imodintro
  ihave Hs := (src_lend0 c (val m ρ false c)).2 $$ [Qf0 Qf1 Qf2 Qf3]
  · isplitl [Qf0]; · iexact Qf0
    isplitl [Qf1]; · iexact Qf1
    isplitl [Qf2]; · iexact Qf2
    iexact Qf3
  ihave Hp := (src_lend1 c (val m ρ true c)).2 $$ [Qt0 Qt1 Qt2 Qt3]
  · isplitl [Qt0]; · iexact Qt0
    isplitl [Qt1]; · iexact Qt1
    isplitl [Qt2]; · iexact Qt2
    iexact Qt3
  ihave Cf := (comm_join (F := F) false c) $$ [Sf0 Vf0 Vf1 Vf2]
  · isplitl [Sf0]; · iexact Sf0
    isplitl [Vf0]; · iapply (slotAny_of_owns false 1 c _); iexact Vf0
    isplitl [Vf1]; · iapply (slotAny_of_owns false 2 c _); iexact Vf1
    iapply (slotAny_of_owns false 3 c _); iexact Vf2
  ihave Ct := (comm_join (F := F) true c) $$ [St0 Vt0 Vt1 Vt2]
  · isplitl [St0]; · iexact St0
    isplitl [Vt0]; · iapply (slotAny_of_owns true 1 c _); iexact Vt0
    isplitl [Vt1]; · iapply (slotAny_of_owns true 2 c _); iexact Vt1
    iapply (slotAny_of_owns true 3 c _); iexact Vt2
  iapply Hk
  unfold xferDone bufsPost
  isplitl [HO]; · iexact HO
  isplitl [Zb]; · iexact Zb
  isplitl [Zrf0 Zsf0 Zvf0 Zrf1 Zsf1 Zvf1 Zrf2 Zsf2 Zvf2]
  · isplitl [Zrf0 Zsf0 Zvf0]
    · isplitl [Zrf0]; · iexact Zrf0
      isplitl [Zsf0] <;> iassumption
    isplitl [Zrf1 Zsf1 Zvf1]
    · isplitl [Zrf1]; · iexact Zrf1
      isplitl [Zsf1] <;> iassumption
    isplitl [Zrf2]; · iexact Zrf2
    isplitl [Zsf2] <;> iassumption
  isplitl [Zrt0 Zst0 Zvt0 Zrt1 Zst1 Zvt1 Zrt2 Zst2 Zvt2]
  · isplitl [Zrt0 Zst0 Zvt0]
    · isplitl [Zrt0]; · iexact Zrt0
      isplitl [Zst0] <;> iassumption
    isplitl [Zrt1 Zst1 Zvt1]
    · isplitl [Zrt1]; · iexact Zrt1
      isplitl [Zst1] <;> iassumption
    isplitl [Zrt2]; · iexact Zrt2
    isplitl [Zst2] <;> iassumption
  isplitl [Hx]; · iexact Hx
  isplitl [Hy]; · iexact Hy
  isplitl [Ho]; · iexact Ho
  isplitl [Hs]
  · iexists (val m ρ false c)
    iexact Hs
  isplitl [Hp]
  · iexists (val m ρ true c)
    iexact Hp
  isplitl [Cf] <;> iassumption

end Cert.Mesh

end
-- ==== Proof.Mesh.Deal.lean ====
/-
The launch's set-up: the protocol's ghost state made at launch, its tokens dealt to the devices that pay, and the credit each
device is owed.
-/
module

public import proofs.«01_k».proof.Proof.Mesh.Body

@[expose] public section

noncomputable section

namespace Cert.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

/-- The kernel's own semaphores, listed. -/
def owns18 : List Own := [(.ready, false, 0), (.send, false, 0), (.recv, false, 0), (.ready, false, 1), (.send, false, 1), (.recv, false, 1), (.ready, false, 2), (.send, false, 2), (.recv, false, 2), (.ready, true, 0), (.send, true, 0), (.recv, true, 0), (.ready, true, 1), (.send, true, 1), (.recv, true, 1), (.ready, true, 2), (.send, true, 2), (.recv, true, 2)]
theorem owns18_all : (Finset.univ : Finset Own) = owns18.toFinset := by decide
theorem owns18_nodup : owns18.Nodup := by decide
/-- All cells, listed. -/
def cells19 : List Cell := none :: owns18.map some
theorem cells19_all : (Finset.univ : Finset Cell) = cells19.toFinset := by decide
theorem cells19_nodup : cells19.Nodup := by decide

/-- A resource per cell is the barrier's and the own semaphores'. -/
theorem bigSep_cell (Φ : Cell → sProp 𝕄) : bigSep Finset.univ Φ = iprop(Φ none ∗ bigSep Finset.univ fun x : Own => Φ (some x)) := by
  rw [bigSep_univ_eq_bigSepL cells19 cells19_all cells19_nodup, bigSep_univ_eq_bigSepL owns18 owns18_all owns18_nodup]; rfl

/-- A resource per own semaphore, one by one. -/
theorem bigSep_own (Φ : Own → sProp 𝕄) : bigSep Finset.univ Φ = iprop(Φ (.ready, false, 0) ∗ Φ (.send, false, 0) ∗ Φ (.recv, false, 0) ∗ Φ (.ready, false, 1) ∗ Φ (.send, false, 1) ∗ Φ (.recv, false, 1) ∗ Φ (.ready, false, 2) ∗ Φ (.send, false, 2) ∗ Φ (.recv, false, 2) ∗ Φ (.ready, true, 0) ∗ Φ (.send, true, 0) ∗ Φ (.recv, true, 0) ∗ Φ (.ready, true, 1) ∗ Φ (.send, true, 1) ∗ Φ (.recv, true, 1) ∗ Φ (.ready, true, 2) ∗ Φ (.send, true, 2) ∗ Φ (.recv, true, 2)) := by
  rw [bigSep_univ_eq_bigSepL owns18 owns18_all owns18_nodup]; rfl

/-! ## The ghost state at launch -/

def allCells : Finset (GSem nD τ sig) := Finset.univ.map ⟨fun ck : Dev nD × Cell => cellG ck.1 ck.2, cellG_injective⟩

/-- A token for each cell and each name of a payer. -/
def tokOf (x : Dev nD × Cell × Bool) : GSem nD τ sig × ℕ × Bool := (cellG x.1 x.2.1, 0, x.2.2)
theorem tokOf_injective : Function.Injective tokOf := by
  rintro ⟨c, k, b⟩ ⟨c', k', b'⟩ h
  obtain ⟨h1, h2⟩ : c = c' ∧ k = k' := cellG_eq_iff.mp (congrArg Prod.fst h)
  have h3 : b = b' := congrArg (fun y : GSem nD τ sig × ℕ × Bool => y.2.2) h
  rw [h1, h2, h3]
def allToks : Finset (GSem nD τ sig × ℕ × Bool) := Finset.univ.map ⟨tokOf, tokOf_injective⟩

/-- The element the ghost state starts from: the pipeline's and the protocol's. -/
def u₀ : UU :=
  (initOf (Pipeline.cells cfgs cellOf_inj) (Pipeline.launchToks cfgs cellOf_inj), initOf allCells allToks)

/-- The tokens of device `c`'s own cells. -/
def toks (c : Dev nD) : sProp 𝕄 :=
  bigSep Finset.univ fun k : Cell => bigSep Finset.univ fun b : Bool => dutyTok ER (cellG c k) 0 b

/-- What the launch deals device `c`: its cells' states, its positions there, and the cells' tokens. -/
def G (c : Dev nD) : sProp 𝕄 :=
  iprop((bigSep Finset.univ fun k : Cell => roundState ER (rd m ρ) (cellG c k) 0)
    ∗ (bigSep Finset.univ fun k : Cell => iprop(atPos ER (cellG c k) 0 ∅ 0 ∗ reached ER (cellG c k) 0)) ∗ toks c)

theorem fund_mesh : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Cell => Φ (cellG c k) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_prod]; rfl
  iintro HX
  imod (Rounds.fund ER (rd m ρ) allCells allToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The invariants -/

theorem unscopedSems0_eq (c : Dev nD) : (unscopedSems0 c : sProp 𝕄) = semVal (cellG c none) 0 := by
  unfold unscopedSems0; rw [bigSep_eq_bigSepL_of_eq [SemLoc.reg barS] (by decide) (by decide)]; rfl

theorem ownSems0_eq (c : Dev nD) : (Pipeline.ownSems0 (Ix := Unit) (Name := ℕ) (U := UU) (Lvl := ℕ) (Val := Elt F) (τ := τ) osem c : sProp 𝕄)
    = bigSep Finset.univ fun x : Own => semVal (cellG c (some x)) 0 := rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Cell => semVal (cellG c k) 0 : sProp 𝕄) := by
  rw [ownSems0_eq, unscopedSems0_eq, bigSep_cell]
  iintro ⟨H, HB⟩
  isplitl [HB] <;> iassumption

/-- Device `c`'s semaphores at zero and its cells' states go into invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Cell => iprop(∃ κ : ℕ, cellInv ER (rd m ρ) κ (cellG c k)))
          ∗ (bigSep Finset.univ fun k : Cell => iprop(atPos ER (cellG c k) 0 ∅ 0 ∗ reached ER (cellG c k) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Cell => semVal (cellG c k) 0) ∗ bigSep Finset.univ fun k : Cell => roundState ER (rd m ρ) (cellG c k) 0)
      ⊢ (|={Set.univ}=> bigSep Finset.univ fun k : Cell => iprop(∃ κ : ℕ, cellInv ER (rd m ρ) κ (cellG c k)) : sProp 𝕄) from by
        rw [← bigSep_sep']
        exact (bigSep_mono fun k _ => (Rounds.body_intro ER (rd m ρ) (cellG c k)).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing the tokens -/

/-- The cell that is paid for a device's own semaphore: a peer's announcement or landing, or its own transfer read out. -/
def paid : Dev nD × Own → Dev nD × Own
  | (c, (.ready, ph, a)) => (peer ph a c, (.ready, ph, a.rev))
  | (c, (.send, ph, a)) => (c, (.send, ph, a))
  | (c, (.recv, ph, a)) => (peer ph a c, (.recv, ph, a.rev))
theorem paid_involutive : Function.Involutive paid := by
  rintro ⟨c, r, ph, a⟩
  cases r
  · show (peer ph a.rev (peer ph a c), ((Role.ready, ph, a.rev.rev) : Own)) = _; rw [peer_rev, Fin.rev_rev]
  · rfl
  · show (peer ph a.rev (peer ph a c), ((Role.recv, ph, a.rev.rev) : Own)) = _; rw [peer_rev, Fin.rev_rev]

/-- The tokens of the payments device `c` makes. -/
def payToks (c : Dev nD) : sProp 𝕄 :=
  iprop((dutyTok ER (cellG (peer false 0 c) none) 0 false ∗ dutyTok ER (cellG (peer false 2 c) none) 0 true)
    ∗ bigSep Finset.univ fun x : Own => dutyTok ER (cellG (paid (c, x)).1 (some (paid (c, x)).2)) 0 false)

theorem toks_own (c : Dev nD) : (toks c : sProp 𝕄)
    ⊢ iprop((dutyTok ER (cellG c none) 0 false ∗ dutyTok ER (cellG c none) 0 true)
      ∗ bigSep Finset.univ fun x : Own => dutyTok ER (cellG c (some x)) 0 false) := by
  unfold toks
  rw [bigSep_cell, bigSep_bool]
  refine sep_mono_right (bigSep_mono fun x _ => ?_)
  exact bigSep_elim (Finset.mem_univ false)

/-- All devices' tokens, dealt to those that pay. -/
theorem toks_around : (bigSep Finset.univ fun c : Dev nD => (toks c : sProp 𝕄)) ⊢ bigSep Finset.univ fun c : Dev nD => payToks c := by
  refine BI.Entails.trans (bigSep_mono fun c _ => toks_own c) (show (_ : sProp 𝕄) ⊢ _ from Entails.of_eq ?_)
  unfold payToks
  rw [bigSep_sep', bigSep_sep', bigSep_sep', bigSep_sep',
    bigSep_univ_equiv (hop false 0) (fun c : Dev nD => (dutyTok ER (cellG c none) 0 false : sProp 𝕄)),
    bigSep_univ_equiv (hop false 2) (fun c : Dev nD => (dutyTok ER (cellG c none) 0 true : sProp 𝕄)),
    ← bigSep_univ_prod (fun cx : Dev nD × Own => (dutyTok ER (cellG cx.1 (some cx.2)) 0 false : sProp 𝕄)),
    ← bigSep_univ_prod (fun cx : Dev nD × Own => (dutyTok ER (cellG (paid cx).1 (some (paid cx).2)) 0 false : sProp 𝕄)),
    bigSep_univ_equiv paid_involutive.toPerm (fun cx : Dev nD × Own => (dutyTok ER (cellG cx.1 (some cx.2)) 0 false : sProp 𝕄))]
  rfl

/-- What stays with a device: its positions and the tokens of its payments. -/
def linear (c : Dev nD) : sProp 𝕄 :=
  iprop((bigSep Finset.univ fun k : Cell => atPos ER (cellG c k) 0 ∅ 0) ∗ payToks c)

/-- What the global step makes for device `c`. -/
def G' (c : Dev nD) : sProp 𝕄 := iprop(∃ K : Dev nD × Cell → ℕ, records m ρ K ∗ linear c)

theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Cell → ℕ) (c : Dev nD) : iprop(records m ρ K ∗ linear c) ⊢ G' m ρ c := by
  unfold G'
  iintro H
  iexists K
  iexact H

theorem regroup :
    (bigSep Finset.univ fun c : Dev nD => iprop((bigSep Finset.univ fun k : Cell => iprop(∃ κ : ℕ, cellInv ER (rd m ρ) κ (cellG c k)))
          ∗ (bigSep Finset.univ fun k : Cell => iprop(atPos ER (cellG c k) 0 ∅ 0 ∗ reached ER (cellG c k) 0)) ∗ toks c) : sProp 𝕄)
      ⊢ bigSep Finset.univ (G' m ρ) := by
  rw [bigSep_sep', bigSep_sep', ← bigSep_univ_prod (fun ck : Dev nD × Cell => iprop(∃ κ : ℕ, cellInv ER (rd m ρ) κ (cellG ck.1 ck.2))),
    bigSep_congr (s := Finset.univ) (fun (c : Dev nD) _ => bigSep_sep' Finset.univ (fun k : Cell => (atPos ER (cellG c k) 0 ∅ 0 : sProp 𝕄)) (fun k => reached ER (cellG c k) 0)),
    bigSep_sep', ← bigSep_univ_prod (fun ck : Dev nD × Cell => (reached ER (cellG ck.1 ck.2) 0 : sProp 𝕄))]
  iintro ⟨HI, ⟨Hat, #HR⟩, Htok⟩
  ihave HK := (BI.bigSep_exists_pi Finset.univ (fun (ck : Dev nD × Cell) (κ : ℕ) => (cellInv ER (rd m ρ) κ (cellG ck.1 ck.2) : sProp 𝕄))) $$ HI
  icases HK with ⟨%K, #HI⟩
  ihave Htk := (toks_around (F := F)) $$ Htok
  iapply (bigSep_with (R := records m ρ K) fun c _ => ghost_intro m ρ K c)
  isplitr
  · unfold records; isplitl; · iexact HI
    iexact HR
  · iapply (Entails.of_eq (bigSep_sep' Finset.univ (fun c : Dev nD => bigSep Finset.univ fun k : Cell => (atPos ER (cellG c k) 0 ∅ 0 : sProp 𝕄)) payToks).symm)
    isplitl [Hat]; · iexact Hat
    iexact Htk

/-- The global step: the semaphores and launch ghost of all devices become the invariants every device knows and each
    device's positions and tokens. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- What a device owes at launch. -/
def O₀ (c : Dev nD) : CellTallies nD τ sig Unit := owe (owed c)

/-- When every device owes a payment on cell `k` of its peer, each device is owed one on its own; the rest goes on. -/
theorem cred_cons (ph : Bool) (a : Fin 3) (k : Cell) (l : Dev nD → List (Dev nD × Cell)) (c : Dev nD) :
    (Pipeline.launchCred (fun d => owe ((peer ph a d, k) :: l d)) c : sProp 𝕄)
      ⊢ iprop(cred (tallyAt (cellG c k) () (amt k)) ∗ Pipeline.launchCred (fun d => owe (l d)) c) := by
  rw [show (fun d => owe ((peer ph a d, k) :: l d)) = fun d => owe (l d) + tallyAt (cellG (peer ph a d) k) () (amt k) from rfl,
    Pipeline.launchCred_add]
  iintro ⟨Hl, Hx⟩
  isplitl [Hx]
  · iapply (Pipeline.launchCred_tallyAt (csem k) (peer ph a) (peer ph a.rev) (peer_rev' ph a) (peer_rev ph a) () (amt k) c); iexact Hx
  iexact Hl

/-- A device's credit at launch: for the round of each cell that others pay. -/
theorem creds (c : Dev nD) :
    (Pipeline.launchCred O₀ c : sProp 𝕄)
      ⊢ iprop(cred (tallyAt (cellG c (some (.ready, false, 2))) () (need (some (.ready, false, 2))))
        ∗ cred (tallyAt (cellG c (some (.ready, true, 2))) () (need (some (.ready, true, 2))))
        ∗ cred (tallyAt (cellG c (some (.ready, false, 1))) () (need (some (.ready, false, 1))))
        ∗ cred (tallyAt (cellG c (some (.ready, true, 1))) () (need (some (.ready, true, 1))))
        ∗ cred (tallyAt (cellG c (some (.ready, false, 0))) () (need (some (.ready, false, 0))))
        ∗ cred (tallyAt (cellG c (some (.ready, true, 0))) () (need (some (.ready, true, 0))))
        ∗ cred (tallyAt (cellG c none) () 1)
        ∗ cred (tallyAt (cellG c none) () 1)
        ∗ cred (tallyAt (cellG c (some (.recv, false, 2))) () (need (some (.recv, false, 2))))
        ∗ cred (tallyAt (cellG c (some (.recv, false, 1))) () (need (some (.recv, false, 1))))
        ∗ cred (tallyAt (cellG c (some (.recv, false, 0))) () (need (some (.recv, false, 0))))
        ∗ cred (tallyAt (cellG c (some (.recv, true, 2))) () (need (some (.recv, true, 2))))
        ∗ cred (tallyAt (cellG c (some (.recv, true, 1))) () (need (some (.recv, true, 1))))
        ∗ cred (tallyAt (cellG c (some (.recv, true, 0))) () (need (some (.recv, true, 0))))
        ∗ Pipeline.launchCred (fun _ => owe []) c) := by
  unfold O₀ owed
  refine (cred_cons false 0 (some (.ready, false, Fin.rev 0)) _ c).trans (sep_mono_right ?_)
  refine (cred_cons true 0 (some (.ready, true, Fin.rev 0)) _ c).trans (sep_mono_right ?_)
  refine (cred_cons false 1 (some (.ready, false, Fin.rev 1)) _ c).trans (sep_mono_right ?_)
  refine (cred_cons true 1 (some (.ready, true, Fin.rev 1)) _ c).trans (sep_mono_right ?_)
  refine (cred_cons false 2 (some (.ready, false, Fin.rev 2)) _ c).trans (sep_mono_right ?_)
  refine (cred_cons true 2 (some (.ready, true, Fin.rev 2)) _ c).trans (sep_mono_right ?_)
  refine (cred_cons false 0 none _ c).trans (sep_mono_right ?_)
  refine (cred_cons false 2 none _ c).trans (sep_mono_right ?_)
  refine (cred_cons false 0 (some (.recv, false, Fin.rev 0)) _ c).trans (sep_mono_right ?_)
  refine (cred_cons false 1 (some (.recv, false, Fin.rev 1)) _ c).trans (sep_mono_right ?_)
  refine (cred_cons false 2 (some (.recv, false, Fin.rev 2)) _ c).trans (sep_mono_right ?_)
  refine (cred_cons true 0 (some (.recv, true, Fin.rev 0)) _ c).trans (sep_mono_right ?_)
  refine (cred_cons true 1 (some (.recv, true, Fin.rev 1)) _ c).trans (sep_mono_right ?_)
  exact (cred_cons true 2 (some (.recv, true, Fin.rev 2)) _ c)

theorem bar_two (c : Dev nD) : iprop(cred (tallyAt (cellG c none) () 1) ∗ cred (tallyAt (cellG c none) () 1))
    ⊢ (cred (tallyAt (cellG c none) () (need none)) : sProp 𝕄) := by
  rw [show need none = 1 + 1 from rfl, ← tallyAt_add]; exact (cred_add _ _).2

/-- What the body takes besides its buffers and what it owes. -/
def start (c : Dev nD) : sProp 𝕄 :=
  iprop(∃ K : Dev nD × Cell → ℕ, records m ρ K ∗ levAts L lv ∗ barRes (F := F) c
    ∗ (xfer (F := F) c false 0 ∗ xfer (F := F) c false 1 ∗ xfer (F := F) c false 2)
    ∗ (xfer (F := F) c true 0 ∗ xfer (F := F) c true 1 ∗ xfer (F := F) c true 2))

/-- Positions, tokens and credit, put together. -/
theorem start_of (c : Dev nD) : iprop(levAts L lv ∗ Pipeline.launchCred O₀ c ∗ G' m ρ c) ⊢ start m ρ c := by
  unfold G' start linear payToks
  rw [bigSep_cell, bigSep_own, bigSep_own]
  iintro ⟨#Hlev, Hcr, ⟨%K, #HR, ⟨HaB, Harf0, Hasf0, Havf0, Harf1, Hasf1, Havf1, Harf2, Hasf2, Havf2, Hart0, Hast0, Havt0, Hart1, Hast1, Havt1, Hart2, Hast2, Havt2⟩, ⟨HtB0, HtB2⟩, Htrf0, Htsf0, Htvf0, Htrf1, Htsf1, Htvf1, Htrf2, Htsf2, Htvf2, Htrt0, Htst0, Htvt0, Htrt1, Htst1, Htvt1, Htrt2, Htst2, Htvt2⟩⟩
  ihave Hc := (creds (F := F) c) $$ Hcr
  icases Hc with ⟨Hcrf2, Hcrt2, Hcrf1, Hcrt1, Hcrf0, Hcrt0, Hcb0, Hcb2, Hcvf2, Hcvf1, Hcvf0, Hcvt2, Hcvt1, Hcvt0, -⟩
  ihave HcB := (bar_two (F := F) c) $$ [Hcb0 Hcb2]
  · isplitl [Hcb0] <;> iassumption
  iexists K
  isplitr; · iexact HR
  isplitr; · iexact Hlev
  unfold barRes xfer toWait
  isplitl [HaB HcB HtB0 HtB2]
  · isplitl [HaB HcB]
    · isplitl [HaB] <;> iassumption
    isplitl [HtB0] <;> iassumption
  isplitl [Harf0 Hcrf0 Havf0 Hcvf0 Hasf0 Htrf0 Htsf0 Htvf0 Harf1 Hcrf1 Havf1 Hcvf1 Hasf1 Htrf1 Htsf1 Htvf1 Harf2 Hcrf2 Havf2 Hcvf2 Hasf2 Htrf2 Htsf2 Htvf2]
  · isplitl [Harf0 Hcrf0 Havf0 Hcvf0 Hasf0 Htrf0 Htsf0 Htvf0]
    · isplitl [Harf0 Hcrf0]
      · isplitl [Harf0] <;> iassumption
      isplitl [Havf0 Hcvf0]
      · isplitl [Havf0] <;> iassumption
      isplitl [Hasf0]; · iexact Hasf0
      isplitl [Htrf0]; · iexact Htrf0
      isplitl [Htsf0]; · iexact Htsf0
      iexact Htvf0
    isplitl [Harf1 Hcrf1 Havf1 Hcvf1 Hasf1 Htrf1 Htsf1 Htvf1]
    · isplitl [Harf1 Hcrf1]
      · isplitl [Harf1] <;> iassumption
      isplitl [Havf1 Hcvf1]
      · isplitl [Havf1] <;> iassumption
      isplitl [Hasf1]; · iexact Hasf1
      isplitl [Htrf1]; · iexact Htrf1
      isplitl [Htsf1]; · iexact Htsf1
      iexact Htvf1
    isplitl [Harf2 Hcrf2]
    · isplitl [Harf2] <;> iassumption
    isplitl [Havf2 Hcvf2]
    · isplitl [Havf2] <;> iassumption
    isplitl [Hasf2]; · iexact Hasf2
    isplitl [Htrf2]; · iexact Htrf2
    isplitl [Htsf2]; · iexact Htsf2
    iexact Htvf2
  isplitl [Hart0 Hcrt0 Havt0 Hcvt0 Hast0 Htrt0 Htst0 Htvt0]
  · isplitl [Hart0 Hcrt0]
    · isplitl [Hart0] <;> iassumption
    isplitl [Havt0 Hcvt0]
    · isplitl [Havt0] <;> iassumption
    isplitl [Hast0]; · iexact Hast0
    isplitl [Htrt0]; · iexact Htrt0
    isplitl [Htst0]; · iexact Htst0
    iexact Htvt0
  isplitl [Hart1 Hcrt1 Havt1 Hcvt1 Hast1 Htrt1 Htst1 Htvt1]
  · isplitl [Hart1 Hcrt1]
    · isplitl [Hart1] <;> iassumption
    isplitl [Havt1 Hcvt1]
    · isplitl [Havt1] <;> iassumption
    isplitl [Hast1]; · iexact Hast1
    isplitl [Htrt1]; · iexact Htrt1
    isplitl [Htst1]; · iexact Htst1
    iexact Htvt1
  isplitl [Hart2 Hcrt2]
  · isplitl [Hart2] <;> iassumption
  isplitl [Havt2 Hcvt2]
  · isplitl [Havt2] <;> iassumption
  isplitl [Hast2]; · iexact Hast2
  isplitl [Htrt2]; · iexact Htrt2
  isplitl [Htst2]; · iexact Htst2
  iexact Htvt2

end Cert.Mesh

end
-- ==== Proof.Mesh.Run.lean ====
/-
The run of the whole program on all devices, over any float values: from any memory every execution ends, with each device's
result at its computed contents, the arguments unchanged and every semaphore at zero.
-/
module

public import proofs.«01_k».proof.Proof.Mesh.Deal
public import proofs.«01_k».proof.Proof.Gen.KernelIdeal.Points
public import Idealize.ShloMosaic.Lib.Pipeline.CollectiveSegs

@[expose] public section

noncomputable section

namespace Cert.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's data -/

/-- Before the body: its resources and the scratch buffers; -/
def Φ₀ (c : Dev nD) : sProp 𝕄 :=
  iprop(start m ρ c ∗ (∃ f, bufAt (F := F) c cc0_scratch0 f) ∗ (∃ f, bufAt (F := F) c cc0_scratch1 f) ∗ commAny (F := F) false c ∗ commAny (F := F) true c)
/-- after it: the semaphores at zero, and the scratch buffers. -/
def Φ₁ (c : Dev nD) : sProp 𝕄 :=
  iprop((semVal (cellG c none) 0 ∗ (xferDone (F := F) c false 0 ∗ xferDone (F := F) c false 1 ∗ xferDone (F := F) c false 2)
      ∗ (xferDone (F := F) c true 0 ∗ xferDone (F := F) c true 1 ∗ xferDone (F := F) c true 2))
    ∗ (∃ f, bufAt (F := F) c cc0_scratch0 f) ∗ (∃ f, bufAt (F := F) c cc0_scratch1 f) ∗ commAny (F := F) false c ∗ commAny (F := F) true c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => ystg m ρ c
    | ⟨2, _⟩ => outAt m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

theorem share_eq (c : Dev nD) (w : Fin cfg0.W) : (dats m ρ 0 c).share w = fullShare := by unfold Dat.share; split <;> rfl

/-! ## The body's obligation -/

abbrev t₀ : Fin cfg0.N := t0_0

/-- A staging buffer of device `c` at contents `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem owns_stg (c : Dev nD) (b : Ref sig .tc) (X : b.ty.Contents (Elt F)) :
    (owns (Ix := Unit) (Name := ℕ) (U := UU) (Lvl := ℕ) (c : Thread nD τ) (Memref.whole b) fullShare X : sProp 𝕄)
      = stg c b X := by
  rw [owns_whole_eq]

theorem before_x (c : Dev nD) (d) : (dats m ρ 0 c).before (0 : Fin 3) t₀ d = xstg m ρ c := by
  unfold Dat.before; rw [if_pos (fetch0_0 t₀)]; rfl
theorem before_y (c : Dev nD) (d) : (dats m ρ 0 c).before (1 : Fin 3) t₀ d = ystg m ρ c := by
  unfold Dat.before; rw [if_pos (fetch0_1 t₀)]; rfl

def bodyPre (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

def bodyPost (c : Dev nD) : sProp 𝕄 :=
  iprop(Φ₁ (F := F) c ∗ (dats m ρ 0 c).owesAt () t₀.succ
    ∗ stg c cc0_stg0_0 (xstg m ρ c) ∗ stg c cc0_stg1_0 (ystg m ρ c) ∗ stg c cc0_stg2_0 (outAt m ρ c))

set_option maxRecDepth 4000 in
/-- The body meets the pipeline's demand: from what it finds at the grid's one point to what it must leave there. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wpc c (cc0_body (F := F) (Memref.whole cc0_stg0_0) (Memref.isWhole_whole _) (Memref.whole cc0_stg1_0) (Memref.isWhole_whole _)
          (Memref.whole cc0_stg2_0) (Memref.isWhole_whole _) (Memref.whole cc0_scratch0) (Memref.isWhole_whole _) (Memref.whole cc0_scratch1) (Memref.isWhole_whole _)
          (Memref.whole cc0_scratch2) (Memref.isWhole_whole _) (Memref.whole cc0_scratch3) (Memref.isWhole_whole _)
          cc0_scratch4 cc0_scratch5 cc0_scratch6 cc0_scratch7 cc0_scratch8 cc0_scratch9) (fun _ => bodyPost m ρ c)
  unfold bodyPre Φ₀ start Dat.owesAt Pipeline.owesWithin
  iintro ⟨⟨⟨%K, #HR, #Hlev, Hb, Hf, Ht⟩, Hs0, Hs1, Hc0, Hc1⟩, ⟨%W, %hW, HO⟩, ⟨%d0, %f0, %e0, Hx⟩, ⟨%d1, %f1, %e1, Hy⟩, ⟨%d2, %f2, %e2, Ho⟩⟩
  rw [before_x] at e0; rw [before_y] at e1
  subst e0 e1
  iapply (sound_body m ρ K c fun _ => bodyPost m ρ c)
  isplitr; · iexact HR
  isplitr; · iexact Hlev
  isplitl [HO]; · unfold oweSt; iexists W; iexact HO
  isplitl [Hb]; · iexact Hb
  isplitl [Hf]; · iexact Hf
  isplitl [Ht]; · iexact Ht
  isplitl [Hx Hy Ho Hs0 Hs1 Hc0 Hc1]
  · unfold bufsPre
    isplitl [Hx]; · iexact Hx
    isplitl [Hy]; · iexact Hy
    isplitl [Ho]; · iexists f2; iexact Ho
    isplitl [Hs0]; · iexact Hs0
    isplitl [Hs1]; · iexact Hs1
    isplitl [Hc0] <;> iassumption
  unfold bufsPost oweSt
  iintro ⟨⟨%W', HO⟩, Hz, Hzf, Hzt, Hx, Hy, Ho, Hs0, Hs1, Hc0, Hc1⟩
  unfold bodyPost Φ₁ Dat.owesAt Pipeline.owesWithin
  isplitl [Hz Hzf Hzt Hs0 Hs1 Hc0 Hc1]
  · isplitl [Hz Hzf Hzt]
    · isplitl [Hz]; · iexact Hz
      isplitl [Hzf] <;> iassumption
    isplitl [Hs0]; · iexact Hs0
    isplitl [Hs1]; · iexact Hs1
    isplitl [Hc0] <;> iassumption
  isplitl [HO]
  · iexists W'
    isplitr; · ipureintro; exact fun _ _ => Or.inl trivial
    iexact HO
  isplitl [Hx]
  · iexists _; isplitr; · (ipureintro; rfl)
    iexact Hx
  isplitl [Hy]
  · iexists _; isplitr; · (ipureintro; rfl)
    iexact Hy
  iexists _; isplitr; · (ipureintro; rfl)
  iexact Ho

/-! ## The launch's side conditions -/

/-- The argument no device reads, held through the region. -/
def spare (c : Dev nD) : sProp 𝕄 := ((c : Thread nD τ).loc main_arg2) ↦{fullShare} m ((c : Thread nD τ).loc main_arg2)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ spare m c) := by
  rw [Pipeline.unscopedRestP_none, unscopedRest0_eq]
  iintro ⟨Hz, #Hlev, Hcr, -, HG⟩
  ihave H := (start_of m ρ c) $$ [Hcr HG]
  · isplitr; · iexact Hlev
    isplitl [Hcr] <;> iassumption
  imodintro
  isplitl [H]; · iexact H
  unfold spare; iexact Hz

/-- A whole array of landing slots, as the launch hands it over. -/
theorem comm_plane (c : Dev nD) : (commAny (F := F) false c : sProp 𝕄) = iprop(∃ f, bufAt (F := F) c cc0_scratch2 f) := by
  unfold commAny
  rw [show (commM false).view.set = Finset.univ from View.set_whole _]; rfl
theorem comm_column (c : Dev nD) : (commAny (F := F) true c : sProp 𝕄) = iprop(∃ f, bufAt (F := F) c cc0_scratch3 f) := by
  unfold commAny
  rw [show (commM true).view.set = Finset.univ from View.set_whole _]; rfl

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, H0, H1, H2, H3⟩
  isplitl [Hs]; · iexact Hs
  isplitl [H0]; · iexact H0
  isplitl [H1]; · iexact H1
  isplitl [H2]; · rw [comm_plane]; iexact H2
  rw [comm_column]; iexact H3

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq, ownSems0_eq, unscopedSems0_eq, bigSep_own]
  unfold Φ₁ xferDone
  rw [comm_plane, comm_column]
  iintro ⟨⟨Hz, ⟨⟨Zrf0, Zsf0, Zvf0⟩, ⟨Zrf1, Zsf1, Zvf1⟩, ⟨Zrf2, Zsf2, Zvf2⟩⟩, ⟨Zrt0, Zst0, Zvt0⟩, ⟨Zrt1, Zst1, Zvt1⟩, ⟨Zrt2, Zst2, Zvt2⟩⟩, H0, H1, H2, H3⟩
  isplitl [Hz]; · iexact Hz
  isplitr [H0 H1 H2 H3]
  · isplitl [Zrf0]; · iexact Zrf0
    isplitl [Zsf0]; · iexact Zsf0
    isplitl [Zvf0]; · iexact Zvf0
    isplitl [Zrf1]; · iexact Zrf1
    isplitl [Zsf1]; · iexact Zsf1
    isplitl [Zvf1]; · iexact Zvf1
    isplitl [Zrf2]; · iexact Zrf2
    isplitl [Zsf2]; · iexact Zsf2
    isplitl [Zvf2]; · iexact Zvf2
    isplitl [Zrt0]; · iexact Zrt0
    isplitl [Zst0]; · iexact Zst0
    isplitl [Zvt0]; · iexact Zvt0
    isplitl [Zrt1]; · iexact Zrt1
    isplitl [Zst1]; · iexact Zst1
    isplitl [Zvt1]; · iexact Zvt1
    isplitl [Zrt2]; · iexact Zrt2
    isplitl [Zst2]; · iexact Zst2
    iexact Zvt2
  isplitl [H0]; · iexact H0
  isplitl [H1]; · iexact H1
  isplitl [H2]; · iexact H2
  iexact H3

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_owe c _ 0 (by fin_cases w <;> fin_cases s <;> rfl) (owed c) rfl
    · exact mayWait_owe c _ 0 (by fin_cases w <;> fin_cases s <;> rfl) [] rfl

theorem spare_read (c : Dev nD) (s' : Phys nD τ sig (Elt F)) :
    iprop(spare m c ∗ SI s') ⊢ (⌜s'.mem.mem ((c : Thread nD τ).loc main_arg2) = m ((c : Thread nD τ).loc main_arg2)⌝ : sProp 𝕄) := by
  unfold spare
  iintro ⟨Hx, HSI⟩
  ihave H := (SI_pointsTo_agree (st := s') (ℓ := (c : Thread nD τ).loc main_arg2) (I := Finset.univ) (q := fullShare) (f := m ((c : Thread nD τ).loc main_arg2))) $$ [HSI Hx]
  · isplitl [HSI] <;> iassumption
  icases H with %hx
  ipureintro; exact funext fun i => hx i (Finset.mem_univ i)

/-- What is read at the end besides the windows' arrays: the spare argument and the unscoped semaphores. -/
def QY (c : Dev nD) (s : MemSt nD τ sig (Elt F)) : Prop :=
  s.mem ((c : Thread nD τ).loc main_arg2) = m ((c : Thread nD τ).loc main_arg2)
    ∧ ∀ sm : SemLoc sig, sm.isScoped .tc = false → s.sem ((c.tc : Thread nD τ), sm) = 0

theorem end_read (c : Dev nD) (s' : Phys nD τ sig (Elt F)) :
    iprop(unscopedSems0 c ∗ spare m c ∗ SI s') ⊢ |={Set.univ}=> iprop((⌜QY m c s'.mem⌝ : sProp 𝕄) ∗ SI s') := by
  iintro ⟨Hu, Hz, HSI⟩
  ihave %hz := (spare_read m c s') $$ [Hz HSI]
  · isplitl [Hz] <;> iassumption
  imod (Pipeline.unscopedSems0_read (X := unscopedSems0 c) (c := c) fupd_intro s') $$ [Hu HSI] with ⟨%hu, HSI⟩
  · isplitl [Hu] <;> iassumption
  imodintro
  isplitr; · ipureintro; exact ⟨hz, hu⟩
  iexact HSI

/-! ## The run -/

/-- Window `w`'s array of device `c` after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg2) = m ((c : Thread nD τ).loc main_arg2)

set_option maxRecDepth 8000 in
theorem run_windows : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_mesh m ρ) $$ HX with HG
      imodintro
      isplitl [HP] <;> iassumption)
    (hglob := glob m ρ)
    (hA := fun _ _ => rfl) (hpf := fun _ k => k.elim0)
    (X := start m ρ) (Y := fun c => unscopedSems0 c) (Z := spare m)
    (hX := start_intro m ρ) (hin := phi0_intro m ρ) (hout := phi1_exit m ρ)
    (QY := QY m) (hY := end_read m)
    (hQ := fun _ h hs => ⟨fun c => ⟨fun w => (h c).1 w, (h c).2.2.1⟩, sem_eq_zero hs fun c => (h c).2.2.2⟩)

end Cert.Mesh

end
-- ==== Proof.Mesh.Result.lean ====
/-
What the run leaves in the buffers that the claims name: each device's result, and the three arguments.
-/
module

public import proofs.«01_k».proof.Proof.Mesh.Run
public import Idealize.ShloMosaic.Lib.Pipeline.ValueKit

@[expose] public section

set_option maxRecDepth 16384

noncomputable section

namespace Cert.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The one block of the first input's window is the whole array; -/
theorem xstg_eq (c : Dev nD) : xstg m ρ c = m ((c : Thread nD τ).loc main_arg0) := by
  funext j
  show m ((c : Thread nD τ).loc main_arg0) ((win0_0.blk (0 : Fin 1)).view.emb j) = _
  exact congrArg _ (by blk_ext [show ∀ a, win0_0.index (0 : Fin 1) a = 0 by decide])
/-- and so is the second's. -/
theorem ystg_eq (c : Dev nD) : ystg m ρ c = m ((c : Thread nD τ).loc main_arg1) := by
  funext j
  show m ((c : Thread nD τ).loc main_arg1) ((win0_1.blk (0 : Fin 1)).view.emb j) = _
  exact congrArg _ (by blk_ext [show ∀ a, win0_1.index (0 : Fin 1) a = 0 by decide])

/-- The result array of device `c` after the run is what its body left in the result's block. -/
theorem final_out (c : Dev nD) : finalA m ρ c (2 : Fin 3) = outAt m ρ c :=
  (dats m ρ 0 c).arrAt_eq_of_after_last (2 : Fin 3) t₀ (by decide +kernel) _ fun j => by
    show outAt m ρ c j = outAt m ρ c _
    exact congrArg _ (by blk_ext)

/-- An argument array is never written. -/
theorem final_x (c : Dev nD) : finalA m ρ c (0 : Fin 3) = m ((c : Thread nD τ).loc main_arg0) :=
  (dats m ρ 0 c).arrAt_in (0 : Fin 3) rfl _
theorem final_y (c : Dev nD) : finalA m ρ c (1 : Fin 3) = m ((c : Thread nD τ).loc main_arg1) :=
  (dats m ρ 0 c).arrAt_in (1 : Fin 3) rfl _

/-- Every execution ends with each device's result at `outAt`, its arguments unchanged, and every semaphore at zero. -/
theorem run_main : θ_run defs (onTc (τ := τ) (main (F := F))) (s₀ m ρ) (fun r =>
    (∀ c : Dev nD, r.2.mem ((c : Thread nD τ).loc main_v1) = outAt m ρ c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
    ∧ r.2.sem = fun _ => 0) :=
  (θ_run defs _ _).mono (fun r h => ⟨fun c =>
    ⟨((h.1 c).1 (2 : Fin 3)).trans (final_out m ρ c), ((h.1 c).1 (0 : Fin 3)).trans (final_x m ρ c),
      ((h.1 c).1 (1 : Fin 3)).trans (final_y m ρ c), (h.1 c).2⟩, h.2⟩) (run_windows m ρ)

/-- The same without the result: the arguments unchanged, and every semaphore at zero. -/
theorem run_frame : θ_run defs (onTc (τ := τ) (main (F := F))) (s₀ m ρ) (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
    ∧ r.2.sem = fun _ => 0) :=
  (θ_run defs _ _).mono (fun r h => ⟨fun c => (h.1 c).2, h.2⟩) (run_main m ρ)

end Cert.Mesh

end
-- ==== Proof.Mesh.SameText.lean ====
/-
The kernel as compiled and the kernel as read over the extended reals are one program: at bit patterns, their launch, their
table of kernel bodies and their host programs are equal. So the run proved over any float values is also the first one's.
-/
module

public import proofs.«01_k».proof.Defs
public import proofs.«01_k».proof.Proof.Gen.Kernel
public import proofs.«01_k».proof.Proof.Mesh.Result

@[expose] public section

noncomputable section

namespace Cert.Mesh

open Idealize.ShloMosaic Idealize.SL.Sem

/-- The two tables of kernel bodies hold the same body; -/
theorem bodies_eq : Cert.Kernel.defs₀ (F := Bits) = Cert.KernelIdeal.defs₀ (F := Bits) := by
  unfold Cert.Kernel.defs₀ Cert.KernelIdeal.defs₀
  refine congrArg (Defs.onTc (nD := Cert.Kernel.nD) (τ := Cert.Kernel.τ) (sig := Cert.Kernel.sig) (Val := Elt Bits) (Λ := Cert.Kernel.Λ₀)) ?_
  funext l x
  match l, x with
  | ⟨0, _⟩, (t, s) => rfl

/-- so the two tables with the launch's own entries are equal. -/
theorem defs_eq : Cert.Kernel.defs (F := Bits) = Cert.KernelIdeal.defs (F := Bits) :=
  congrArg (Pipeline.defs (Cert.Kernel.pcfgs (F := Bits))) bodies_eq

/-- The kernel at bit patterns runs: its arguments end unchanged, and every semaphore at zero. -/
theorem frame_bits : Cert.quiescent_Kernel := fun m ρ _ =>
  (congrArg (fun D => θ_run D (onTc (τ := Cert.Kernel.τ) (Cert.Kernel.main (F := Bits))) ⟨m, fun _ => 0, ρ⟩ (fun r =>
      (∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1)
        ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)) defs_eq).mpr (run_frame (F := Bits) m ρ)

end Cert.Mesh

end
-- ==== Proof.Mesh.Stats.lean ====
/-
The mathematics both programs compute, over the extended reals: the statistics of one row, and the sums of a weighted
normalized column.
-/
module

public import Idealize.ShloMosaic.Lib.IdealHost

@[expose] public section

set_option maxRecDepth 16384

noncomputable section

namespace Cert.Mesh

open Idealize.ShloMosaic
open scoped BigOperators

/-- The length of a row, 512, as the programs write it. -/
abbrev len : EReal := Ideal.ofBits FTy.f32 1140850688#32
/-- The small constant added to a variance. -/
abbrev eps : EReal := Ideal.ofBits FTy.f32 925353388#32

/-- The mean of a row; -/
def mean (r : Fin 512 → EReal) : EReal := Ideal.div (∑ k, r k) len
/-- its variance; -/
def var (r : Fin 512 → EReal) : EReal := Ideal.div (∑ k, (r k - mean r) * (r k - mean r)) len
/-- its normalized entry at column `l`. -/
def hat (r : Fin 512 → EReal) (l : Fin 512) : EReal := (r l - mean r) * Ideal.rsqrt (var r + eps)

/-- Over a matrix `X` of `n` rows, with weights `Y`: row 0 of the result is the weighted sum of the normalized entries of a
    column, row 1 the sum of the weights. -/
def colSums {n : ℕ} (X Y : Fin n → Fin 512 → EReal) (q : Fin 2) (l : Fin 512) : EReal :=
  if q.val < 1 then ∑ i, Y i l * hat (X i) l else ∑ i, Y i l

theorem len_eq : len = ((512 : ℝ) : EReal) := by
  simp [len, Ideal.ofBits, Ideal.ieee, -EReal.coe_mul]; norm_num

theorem eps_nonneg : 0 ≤ eps := by
  simp [eps, Ideal.ofBits, Ideal.ieee, -EReal.coe_mul]

theorem square_nonneg (x : EReal) : 0 ≤ x * x := by
  induction x with
  | bot => simp
  | coe x => rw [← EReal.coe_mul]; exact EReal.coe_nonneg.mpr (mul_self_nonneg x)
  | top => simp

/-- A variance plus the small constant is not negative. -/
theorem var_add_nonneg (r : Fin 512 → EReal) : 0 ≤ var r + eps := by
  refine add_nonneg ?_ eps_nonneg
  unfold var Ideal.div
  rw [len_eq, if_neg (by norm_num)]
  refine mul_nonneg (Finset.sum_nonneg fun k _ => square_nonneg _) ?_
  rw [← EReal.coe_inv]; exact EReal.coe_nonneg.mpr (by norm_num)

/-- One over the square root is the reciprocal square root, wherever the argument is not negative. -/
theorem one_div_sqrt {v : EReal} (h : 0 ≤ v) : Ideal.div 1 (Ideal.sqrt v) = Ideal.rsqrt v := by
  have st : Ideal.sqrt ⊤ = ⊤ := rfl
  have rt : Ideal.rsqrt ⊤ = 0 := rfl
  have sc (x : ℝ) : Ideal.sqrt (x : EReal) = if x < 0 then ⊥ else (Real.sqrt x : EReal) := rfl
  have rc (x : ℝ) : Ideal.rsqrt (x : EReal) = if x < 0 then ⊥ else if x = 0 then ⊤ else (((Real.sqrt x)⁻¹ : ℝ) : EReal) := rfl
  induction v with
  | bot => simp at h
  | top => simp [st, rt, Ideal.div]
  | coe x =>
    have hx : 0 ≤ x := EReal.coe_nonneg.mp h
    rw [sc, rc, if_neg (not_lt.mpr hx), if_neg (not_lt.mpr hx)]
    by_cases h0 : x = 0
    · subst h0; simp [Ideal.div]
    · have hs : Real.sqrt x ≠ 0 := (Real.sqrt_pos.mpr (lt_of_le_of_ne hx (Ne.symm h0))).ne'
      rw [if_neg h0, Ideal.div, if_neg (by exact_mod_cast hs), one_mul, EReal.coe_inv]

/-- The column sums over 8192 rows are the sums, over 16 blocks of 512 rows, of the blocks' column sums. -/
theorem colSums_blocks (X Y : Fin 8192 → Fin 512 → EReal) (q : Fin 2) (l : Fin 512) :
    colSums X Y q l = ∑ c : Fin 16, colSums (fun i : Fin 512 => X ⟨c.val * 512 + i.val, by omega⟩) (fun i : Fin 512 => Y ⟨c.val * 512 + i.val, by omega⟩) q l := by
  have key (g : Fin 8192 → EReal) : ∑ r, g r = ∑ c : Fin 16, ∑ i : Fin 512, g ⟨c.val * 512 + i.val, by omega⟩ := by
    rw [← Fintype.sum_prod_type', ← Equiv.sum_comp (finProdFinEquiv (m := 16) (n := 512))]
    refine Finset.sum_congr rfl fun p _ => congrArg g (Fin.ext ?_)
    show p.2.val + 512 * p.1.val = p.1.val * 512 + p.2.val
    omega
  unfold colSums
  split <;> exact key _

end Cert.Mesh

end
-- ==== Proof.Mesh.OwnValue.lean ====
/-
What one device computes from its two blocks, over the extended reals: the column sums of its own 512 rows.
-/
module

public import proofs.«01_k».proof.Proof.Mesh.Stats
public import proofs.«01_k».proof.Proof.Gen.KernelIdeal.Skeleton
public import Idealize.ShloMosaic.Lib.Pointwise

@[expose] public section

set_option maxRecDepth 16384

noncomputable section

namespace Cert.Mesh

open Idealize.ShloMosaic
open Cert.KernelIdeal Cert.KernelIdeal.Gen

/-- The body's result on blocks `x` and `y`, at an index. -/
theorem own_value (x y : Vec Ideal S512x512 .bf16) (q : Fin 2) (l : Fin 512) :
    k0_pay4 (F := Ideal) (k0_pay1 y) (k0_pay2 x) (k0_pay3 x) (ix2 q l)
      = colSums (fun i k => x (ix2 i k)) (fun i k => y (ix2 i k)) q l := by
  unfold colSums hat var mean
  pointwise [k0_pay1, k0_pay2, k0_pay3, k0_pay4]
  rfl

end Cert.Mesh

end
-- ==== Proof.Mesh.RefValue.lean ====
/-
What the reference leaves in its result, over the extended reals: the column sums of all 8192 rows.
-/
module

public import proofs.«01_k».proof.Proof.Mesh.Stats
public import proofs.«01_k».proof.Proof.Gen.ReferenceIdeal.Run
public import Idealize.ShloMosaic.Lib.Pointwise
public import Idealize.ShloMosaic.Lib.Quiescent

@[expose] public section

set_option maxRecDepth 16384

noncomputable section

namespace Cert.Mesh

open Idealize.ShloMosaic
open Idealize.ShloMosaic.TcCoe Idealize.SL.Sem
open Cert.ReferenceIdeal Cert.ReferenceIdeal.Gen

variable (m : (ℓ : Loc nD τ sig) → Buf (Elt Ideal) ℓ) (ρ : Dev nD → PrngReg)

/-- The reference's result, from its two matrices. -/
def refOut (X Y : S8192x512.Idx → EReal) : S2x512.Idx → EReal := fun j =>
  colSums (fun i k => X (ix2 i k)) (fun i k => Y (ix2 i k)) (j 0) (j 1)

/-- The count of degrees of freedom is the row's length, which is positive. -/
theorem dof : len - FloatOps.sitofp (F := Ideal) FTy.f32 (0#32 : BitVec 32) = len := by
  show len - (((0#32 : BitVec 32).toInt : ℝ) : EReal) = len
  simp
theorem len_pos : 0 < len := by rw [len_eq]; norm_num

/-- Every execution of the reference ends with its result at `refOut` of its arguments, the arguments unchanged, and every
    semaphore at zero (the reference has none). -/
theorem run_ref : θ_run defs (onTc (τ := τ) (main (F := Ideal))) ⟨m, fun _ => 0, ρ⟩ (fun r =>
    (∀ c : Dev nD, r.2.mem ((c.tc : Thread nD τ).loc main_v21) = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0) := by
  refine (θ_run defs _ _).mono (fun r h => ⟨fun c => ⟨(h c).1.trans ?_, (h c).2⟩, sem_eq_zero_of_no_sems rfl _⟩) (Value.run m ρ)
  clear h
  generalize m ((c.tc : Thread nD τ).loc main_arg0) = X
  generalize m ((c.tc : Thread nD τ).loc main_arg1) = Y
  funext j
  idx_vars j
  unfold refOut colSums hat
  simp only [← one_div_sqrt (var_add_nonneg _)]
  unfold var mean
  pointwise
  simp only [dof, if_pos len_pos]
  rfl

end Cert.Mesh

end
-- ==== Proof.Mesh.MeshSum.lean ====
/-
The two exchanges together, over the extended reals: every device ends with the sum of the partial results of all sixteen.
-/
module

public import proofs.«01_k».proof.Proof.Mesh.Schedule
public import Idealize.ShloMosaic.PureOps.Ideal.Laws

@[expose] public section

set_option maxRecDepth 16384

noncomputable section

namespace Cert.Mesh

open Idealize.ShloMosaic
open Idealize.ShloMosaic.TcCoe
open Cert.KernelIdeal Cert.KernelIdeal.Gen

/-- The sixteen devices in the order in which device `c` sums them. -/
def order (c : Dev nD) : List (Dev nD) :=
  [c, peer true 0 c, peer true 1 c, peer true 2 c].flatMap fun d => [d, peer false 0 d, peer false 1 d, peer false 2 d]

theorem order_perm : ∀ c : Dev nD, (order c).Perm (List.finRange nD) := by decide +kernel

/-- The exchange along the column of the exchange in the plane sums over all devices. -/
theorem add4_add4 (f : Dev nD → FVec Ideal S2x512 .f32) (c : Dev nD) (j : S2x512.Idx) :
    (add4 (add4 f false) true c j : EReal) = ∑ d : Dev nD, (f d j : EReal) := by
  rw [show ∑ d : Dev nD, (f d j : EReal) = ((List.finRange nD).map fun d => (f d j : EReal)).sum from List.sum_ofFn.symm.trans (by rw [List.ofFn_eq_map]),
    ← ((order_perm c).map _).sum_eq]
  have h4 (g : Dev nD → FVec Ideal S2x512 .f32) (ph : Bool) (d : Dev nD) :
      (add4 g ph d j : EReal) = g d j + g (peer ph 0 d) j + g (peer ph 1 d) j + g (peer ph 2 d) j := rfl
  simp only [h4, order, List.flatMap_cons, List.flatMap_nil, List.cons_append, List.nil_append, List.append_nil, List.map_cons, List.map_nil, List.sum_cons, List.sum_nil, add_zero, add_assoc]

end Cert.Mesh

end
-- ==== Proof.Mesh.Equation.lean ====
/-
The two results are equal: each device's result, on the blocks of two matrices, is the reference's on the whole matrices.
-/
module

public import proofs.«01_k».proof.Proof.Mesh.Result
public import proofs.«01_k».proof.Proof.Mesh.OwnValue
public import proofs.«01_k».proof.Proof.Mesh.RefValue
public import proofs.«01_k».proof.Proof.Mesh.MeshSum
public import Idealize.ShloMosaic.Lib.Layout

@[expose] public section

set_option maxRecDepth 16384

noncomputable section

namespace Cert.Mesh

open Idealize.ShloMosaic
open Idealize.ShloMosaic.TcCoe
open Cert.KernelIdeal Cert.KernelIdeal.Gen

variable (m : (ℓ : Loc nD τ sig) → Buf (Elt Ideal) ℓ) (ρ : Dev nD → PrngReg)

/-- A block of a matrix, at an index: device `c` holds the rows from `512 * c` on. -/
theorem block_ix2 (X : Cert.ReferenceIdeal.S8192x512.Idx → EReal) (c : Fin 16) (i k : Fin 512) :
    Layout.block ⟨2, ![512, 512]⟩ ⟨2, ![8192, 512]⟩ 0 16 c X (by decide) (ix2 i k) = X (ix2 ⟨c.val * 512 + i.val, by omega⟩ k) := by
  rw [Layout.block_apply]
  refine congrArg X (funext fun a => Fin.ext ?_)
  match a with
  | ⟨0, _⟩ => rfl
  | ⟨1, _⟩ => rfl

/-- If every device holds its block of the matrices `X` and `Y`, every device's result is the reference's on `X` and `Y`. -/
theorem outAt_eq (X Y : Cert.ReferenceIdeal.S8192x512.Idx → EReal)
    (hX : ∀ c : Dev nD, m ((c : Thread nD τ).loc main_arg0) = Layout.block ⟨2, ![512, 512]⟩ ⟨2, ![8192, 512]⟩ 0 16 c X)
    (hY : ∀ c : Dev nD, m ((c : Thread nD τ).loc main_arg1) = Layout.block ⟨2, ![512, 512]⟩ ⟨2, ![8192, 512]⟩ 0 16 c Y)
    (c : Dev nD) : outAt m ρ c = refOut X Y := by
  funext j
  idx_vars j
  refine (add4_add4 (own m ρ) c (ix2 j0 j1)).trans ?_
  refine Eq.trans ?_ (colSums_blocks (fun i k => X (ix2 i k)) (fun i k => Y (ix2 i k)) j0 j1).symm
  refine Finset.sum_congr rfl fun d _ => ?_
  refine (own_value (xstg m ρ d) (ystg m ρ d) j0 j1).trans ?_
  rw [xstg_eq, ystg_eq, hX, hY]
  simp only [block_ix2]

end Cert.Mesh

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Mesh.SameText
public import proofs.«01_k».proof.Proof.Mesh.Equation

@[expose] public section

noncomputable section

namespace Cert.Proof

open Idealize.ShloMosaic Idealize.SL.Sem

/-- The kernel runs at bit patterns: it is the program whose run is proved over any float values. -/
theorem frame_kernel : Cert.quiescent_Kernel := Cert.Mesh.frame_bits

/-- The same program over the extended reals. -/
theorem frame_ideal : Cert.quiescent_KernelIdeal := fun m ρ _ => Cert.Mesh.run_frame (F := Ideal) m ρ

/-- The reference over the extended reals. -/
theorem frame_reference : Cert.quiescent_ReferenceIdeal := fun m ρ _ =>
  (θ_run Cert.ReferenceIdeal.defs _ _).mono (fun _ h => ⟨fun c => (h.1 c).2, h.2⟩) (Cert.Mesh.run_ref m ρ)

/-- Every device's result is the reference's. -/
theorem value : Cert.algebraic_KernelIdeal_ReferenceIdeal := fun m ρ m' ρ' _ hb =>
  ⟨_, (θ_run Cert.KernelIdeal.defs _ _).mono (fun _ h c =>
      ⟨(h.1 c).1.trans (Cert.Mesh.outAt_eq m ρ _ _ (fun d => (hb d).1) (fun d => (hb d).2.1) c), (h.1 c).2⟩) (Cert.Mesh.run_main (F := Ideal) m ρ),
    (θ_run Cert.ReferenceIdeal.defs _ _).mono (fun _ h => h.1 0) (Cert.Mesh.run_ref m' ρ')⟩

theorem claim : Cert.Claim := ⟨Cert.Kernel.Gen.facts, Cert.KernelIdeal.Gen.facts, Cert.ReferenceIdeal.Gen.facts,
  frame_kernel, frame_ideal, frame_reference, trivial, value⟩

end Cert.Proof

end
